-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_above_minus_inf [hPre_scores_above_minus_inf : Cert.Pre_scores_above_minus_inf.Facts] (m : (ℓ : Loc Cert.KernelIdeal.nD Cert.KernelIdeal.τ Cert.KernelIdeal.sig) → Buf (Elt Ideal) ℓ) : Prop :=
  ∀ c : Dev Cert.KernelIdeal.nD,
    (Cert.Pre_scores_above_minus_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_above_minus_inf [hPre_scores_above_minus_inf : Cert.Pre_scores_above_minus_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_above_minus_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scores_above_minus_inf [hKernelIdeal : Cert.KernelIdeal.Facts] [hPre_scores_above_minus_inf : Cert.Pre_scores_above_minus_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_above_minus_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scores_above_minus_inf [hReferenceIdeal : Cert.ReferenceIdeal.Facts] [hPre_scores_above_minus_inf : Cert.Pre_scores_above_minus_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_above_minus_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_scores_above_minus_inf [hKernelIdeal : Cert.KernelIdeal.Facts] [hReferenceIdeal : Cert.ReferenceIdeal.Facts] [hPre_scores_above_minus_inf : Cert.Pre_scores_above_minus_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_above_minus_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_scores_above_minus_inf : Cert.Pre_scores_above_minus_inf.Facts),
    quiescent_Kernel (hKernel := hKernel)
    ∧ quiescent_KernelIdeal (hKernelIdeal := hKernelIdeal)
    ∧ quiescent_KernelIdeal_pre_scores_above_minus_inf (hKernelIdeal := hKernelIdeal) (hPre_scores_above_minus_inf := hPre_scores_above_minus_inf)
    ∧ quiescent_ReferenceIdeal (hReferenceIdeal := hReferenceIdeal)
    ∧ quiescent_ReferenceIdeal_pre_scores_above_minus_inf (hReferenceIdeal := hReferenceIdeal) (hPre_scores_above_minus_inf := hPre_scores_above_minus_inf)
    ∧ preserves_Kernel_KernelIdeal
    ∧ algebraic_KernelIdeal_ReferenceIdeal_pre_scores_above_minus_inf (hKernelIdeal := hKernelIdeal) (hReferenceIdeal := hReferenceIdeal) (hPre_scores_above_minus_inf := hPre_scores_above_minus_inf)
-- ==== Pre_scores_above_minus_inf.lean ====
abbrev S8x20000x2 : Shape := ⟨3, ![8, 20000, 2]⟩
abbrev S8x20000x4 : Shape := ⟨3, ![8, 20000, 4]⟩
abbrev S8x20000x1 : Shape := ⟨3, ![8, 20000, 1]⟩
abbrev S8x20000 : Shape := ⟨2, ![8, 20000]⟩
abbrev S_ : Shape := ⟨0, ![]⟩

class Facts : Prop where
  slices_S8x20000x2_S8x20000x1_0_0_1 : S8x20000x2.Slices ![0, 0, 1] S8x20000x1
  shapeCasts_S8x20000x1_S8x20000 : S8x20000x1.ShapeCasts S8x20000
  bcast_S_S8x20000 : S_.BroadcastsInDim S8x20000 (![] : Fin 0 → Fin S8x20000.rank)
  reducesTo_S8x20000_S_d0_1 : S8x20000.ReducesTo [0, 1] S_
  h_S_ : 0 < S_.numel

variable [Facts]

def fn {F : FTy → Type} [FloatOps F] (main_arg0 : FVec F S8x20000x2 .f32) (main_arg1 : FVec F S8x20000x4 .f32) : IVec S_ 1 :=
  let main_v0 : FVec F S8x20000x1 .f32 := (extractStridedSlice S8x20000x1 ![0, 0, 1] · slices_S8x20000x2_S8x20000x1_0_0_1) main_arg0
  let main_v1 : FVec F S8x20000 .f32 := shapeCast S8x20000 main_v0 shapeCasts_S8x20000x1_S8x20000
  let main_cst : FVec F S_ .f32 := constant S_ .f32 0xFF800000#32
  let main_v2 : FVec F S8x20000 .f32 := broadcastInDim S8x20000 ![] bcast_S_S8x20000 main_cst
  let main_v3 : IVec S8x20000 1 := cmpf .ogt main_v1 main_v2
  let main_c : IVec S_ 1 := constantI S_ 1 1#1
  let main_v4 : IVec S_ 1 := (fun x v => Host.reduce IntOp.andi x v reducesTo_S8x20000_S_d0_1 h_S_) main_v3 main_c
  main_v4
-- ==== Kernel.lean ====
abbrev S8x20000x2 : Shape := ⟨3, ![8, 20000, 2]⟩
abbrev S8x20000x4 : Shape := ⟨3, ![8, 20000, 4]⟩
abbrev S8x20000x1 : Shape := ⟨3, ![8, 20000, 1]⟩
abbrev S8x20000 : Shape := ⟨2, ![8, 20000]⟩
abbrev S_ : Shape := ⟨0, ![]⟩
abbrev S8x20480 : Shape := ⟨2, ![8, 20480]⟩
abbrev S8x20480x4 : Shape := ⟨3, ![8, 20480, 4]⟩
abbrev S8x20480x1 : Shape := ⟨3, ![8, 20480, 1]⟩
abbrev S300x8x4 : Shape := ⟨3, ![300, 8, 4]⟩
abbrev S8 : Shape := ⟨1, ![8]⟩
abbrev S8x1 : Shape := ⟨2, ![8, 1]⟩
abbrev S8x4 : Shape := ⟨2, ![8, 4]⟩
abbrev S1x8x4 : Shape := ⟨3, ![1, 8, 4]⟩
abbrev S8x300x4 : Shape := ⟨3, ![8, 300, 4]⟩

abbrev nBuf : Space → Nat
  | .hbm => 20
  | .vmem => 7
  | .smem => 0
  | _ => 0

abbrev bufTy : (tb : Table) → Fin (tcTables nBuf tb) → BufTy
  | .hbm, ⟨0, _⟩ => ⟨S8x20000x2, .f32⟩
  | .hbm, ⟨1, _⟩ => ⟨S8x20000x4, .f32⟩
  | .hbm, ⟨2, _⟩ => ⟨S8x20000x1, .f32⟩
  | .hbm, ⟨3, _⟩ => ⟨S8x20000, .f32⟩
  | .hbm, ⟨4, _⟩ => ⟨S_, .f32⟩
  | .hbm, ⟨5, _⟩ => ⟨S_, .f32⟩
  | .hbm, ⟨6, _⟩ => ⟨S8x20480, .f32⟩
  | .hbm, ⟨7, _⟩ => ⟨S_, .i32⟩
  | .hbm, ⟨8, _⟩ => ⟨S_, .f32⟩
  | .hbm, ⟨9, _⟩ => ⟨S8x20480x4, .f32⟩
  | .hbm, ⟨10, _⟩ => ⟨S8x20480x1, .f32⟩
  | .hbm, ⟨11, _⟩ => ⟨S8x20480, .f32⟩
  | .hbm, ⟨12, _⟩ => ⟨S8x20480x1, .f32⟩
  | .hbm, ⟨13, _⟩ => ⟨S8x20480, .f32⟩
  | .hbm, ⟨14, _⟩ => ⟨S8x20480x1, .f32⟩
  | .hbm, ⟨15, _⟩ => ⟨S8x20480, .f32⟩
  | .hbm, ⟨16, _⟩ => ⟨S8x20480x1, .f32⟩
  | .hbm, ⟨17, _⟩ => ⟨S8x20480, .f32⟩
  | .hbm, ⟨18, _⟩ => ⟨S300x8x4, .f32⟩
  | .hbm, ⟨19, _⟩ => ⟨S8x300x4, .f32⟩
  | .local _ .vmem, ⟨0, _⟩ => ⟨S8x20480, .f32⟩
  | .local _ .vmem, ⟨1, _⟩ => ⟨S8x20480, .f32⟩
  | .local _ .vmem, ⟨2, _⟩ => ⟨S8x20480, .f32⟩
  | .local _ .vmem, ⟨3, _⟩ => ⟨S8x20480, .f32⟩
  | .local _ .vmem, ⟨4, _⟩ => ⟨S8x20480, .f32⟩
  | .local _ .vmem, ⟨5, _⟩ => ⟨S300x8x4, .f32⟩
  | .local _ .vmem, ⟨6, _⟩ => ⟨S8x20480, .f32⟩
  | _, _ => ⟨S8x20000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_call0_v0 : Ref sig .tc := ⟨.hbm, 5, rfl⟩
abbrev main_v2 : Ref sig .tc := ⟨.hbm, 6, rfl⟩
abbrev main_c : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c300_i32 : BitVec 32 := 300#32
  let v21 : BitVec 32 := Scalar.addi c0_i32 c300_i32
  let c1_i32 : BitVec 32 := 1#32
  ⟨c0_i32, v21, c1_i32⟩
def k0_off1 (k0_t1 : Fin k0_t1_loop.trips) : Fin 3 → Nat :=
  let c0_i32 : BitVec 32 := 0#32
  let c1_i32 : BitVec 32 := 1#32
  let arg7 : BitVec 32 := Scf.iv c0_i32 c1_i32 k0_t1
  let v93 : Index := Scalar.indexCast arg7
  let c0_33 : Index := 0#32
  let c0_34 : Index := 0#32
  ![v93.toNat, 0, 0]
abbrev stage0_0 : Fin 1 → Memref sig .tc .vmem S8x20480 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x20480 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x20480 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x20480 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x20480 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S300x8x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8x20000x2 : Shape := ⟨3, ![8, 20000, 2]⟩
abbrev S8x20000x4 : Shape := ⟨3, ![8, 20000, 4]⟩
abbrev S8x20000x1 : Shape := ⟨3, ![8, 20000, 1]⟩
abbrev S8x20000 : Shape := ⟨2, ![8, 20000]⟩
abbrev S20000 : Shape := ⟨1, ![20000]⟩
abbrev S_ : Shape := ⟨0, ![]⟩
abbrev S300x8 : Shape := ⟨2, ![300, 8]⟩
abbrev S8 : Shape := ⟨1, ![8]⟩
abbrev S8x1 : Shape := ⟨2, ![8, 1]⟩
abbrev S8x4 : Shape := ⟨2, ![8, 4]⟩
abbrev S1x20000 : Shape := ⟨2, ![1, 20000]⟩
abbrev S1x8 : Shape := ⟨2, ![1, 8]⟩
abbrev S8x300 : Shape := ⟨2, ![8, 300]⟩
abbrev S8x300x1 : Shape := ⟨3, ![8, 300, 1]⟩
abbrev S8x300x4 : Shape := ⟨3, ![8, 300, 4]⟩
abbrev S300x4 : Shape := ⟨2, ![300, 4]⟩

abbrev nBuf : Space → Nat
  | .hbm => 167
  | .vmem => 0
  | .smem => 0
  | _ => 0

abbrev hbmTy0_0 (i : Nat) : BufTy := match i % 128 with
  | 0 => ⟨S8x20000x2, .f32⟩
  | 1 => ⟨S8x20000x4, .f32⟩
  | 2 => ⟨S8x20000x1, .f32⟩
  | 3 => ⟨S8x20000, .f32⟩
  | 4 => ⟨S8x20000, .f32⟩
  | 5 => ⟨S20000, .i32⟩
  | 6 => ⟨S8x20000, .i32⟩
  | 7 => ⟨S8x20000, .f32⟩
  | 8 => ⟨S8x20000, .i32⟩
  | 9 => ⟨S_, .i32⟩
  | 10 => ⟨S8x20000, .i32⟩
  | 11 => ⟨S8x20000, .i1⟩
  | 12 => ⟨S_, .i32⟩
  | 13 => ⟨S8x20000, .i32⟩
  | 14 => ⟨S8x20000, .i32⟩
  | 15 => ⟨S8x20000, .i32⟩
  | 16 => ⟨S8x20000x1, .i32⟩
  | 17 => ⟨S8x20000x4, .f32⟩
  | 18 => ⟨S20000, .i32⟩
  | 19 => ⟨S_, .i1⟩
  | 20 => ⟨S20000, .i1⟩
  | 21 => ⟨S8x20000, .i1⟩
  | 22 => ⟨S_, .i32⟩
  | 23 => ⟨S300x8, .i32⟩
  | 24 => ⟨S_, .i1⟩
  | 25 => ⟨S300x8, .i1⟩
  | 26 => ⟨S_, .i32⟩
  | 27 => ⟨S8x20000x4, .f32⟩
  | 28 => ⟨S20000, .i32⟩
  | 29 => ⟨S_, .i32⟩
  | 30 => ⟨S8x20000, .i1⟩
  | 31 => ⟨S300x8, .i32⟩
  | 32 => ⟨S300x8, .i1⟩
  | 33 => ⟨S_, .i32⟩
  | 34 => ⟨S_, .i1⟩
  | 35 => ⟨S8x20000, .i1⟩
  | 36 => ⟨S8x20000, .i32⟩
  | 37 => ⟨S_, .i1⟩
  | 38 => ⟨S_, .i32⟩
  | 39 => ⟨S8, .i1⟩
  | 40 => ⟨S8, .i32⟩
  | 41 => ⟨S8x1, .i32⟩
  | 42 => ⟨S8, .i1⟩
  | 43 => ⟨S8x1, .i32⟩
  | 44 => ⟨S8x4, .f32⟩
  | 45 => ⟨S8x1, .f32⟩
  | 46 => ⟨S8, .f32⟩
  | 47 => ⟨S8x20000x1, .f32⟩
  | 48 => ⟨S8x20000, .f32⟩
  | 49 => ⟨S8x1, .f32⟩
  | 50 => ⟨S8x20000, .f32⟩
  | 51 => ⟨S8x20000, .f32⟩
  | 52 => ⟨S8x1, .f32⟩
  | 53 => ⟨S8, .f32⟩
  | 54 => ⟨S8x20000x1, .f32⟩
  | 55 => ⟨S8x20000, .f32⟩
  | 56 => ⟨S8x1, .f32⟩
  | 57 => ⟨S8x20000, .f32⟩
  | 58 => ⟨S8x20000, .f32⟩
  | 59 => ⟨S8x1, .f32⟩
  | 60 => ⟨S8, .f32⟩
  | 61 => ⟨S8x20000x1, .f32⟩
  | 62 => ⟨S8x20000, .f32⟩
  | 63 => ⟨S8x1, .f32⟩
  | 64 => ⟨S8x20000, .f32⟩
  | 65 => ⟨S8x20000, .f32⟩
  | 66 => ⟨S8x1, .f32⟩
  | 67 => ⟨S8, .f32⟩
  | 68 => ⟨S8x20000x1, .f32⟩
  | 69 => ⟨S8x20000, .f32⟩
  | 70 => ⟨S8x1, .f32⟩
  | 71 => ⟨S8x20000, .f32⟩
  | 72 => ⟨S8x20000, .f32⟩
  | 73 => ⟨S8x20000, .f32⟩
  | 74 => ⟨S_, .f32⟩
  | 75 => ⟨S8x20000, .f32⟩
  | 76 => ⟨S8x20000, .f32⟩
  | 77 => ⟨S8x20000, .f32⟩
  | 78 => ⟨S_, .f32⟩
  | 79 => ⟨S8x20000, .f32⟩
  | 80 => ⟨S8x20000, .f32⟩
  | 81 => ⟨S8x20000, .f32⟩
  | 82 => ⟨S8x1, .f32⟩
  | 83 => ⟨S8, .f32⟩
  | 84 => ⟨S8x1, .f32⟩
  | 85 => ⟨S8, .f32⟩
  | 86 => ⟨S8, .f32⟩
  | 87 => ⟨S_, .f32⟩
  | 88 => ⟨S8, .f32⟩
  | 89 => ⟨S8, .f32⟩
  | 90 => ⟨S8x1, .f32⟩
  | 91 => ⟨S8, .f32⟩
  | 92 => ⟨S8x1, .f32⟩
  | 93 => ⟨S8, .f32⟩
  | 94 => ⟨S8, .f32⟩
  | 95 => ⟨S_, .f32⟩
  | 96 => ⟨S8, .f32⟩
  | 97 => ⟨S8, .f32⟩
  | 98 => ⟨S8, .f32⟩
  | 99 => ⟨S8x20000x1, .f32⟩
  | 100 => ⟨S8x20000, .f32⟩
  | 101 => ⟨S8x20000x1, .f32⟩
  | 102 => ⟨S8x20000, .f32⟩
  | 103 => ⟨S8x20000, .f32⟩
  | 104 => ⟨S_, .f32⟩
  | 105 => ⟨S8x20000, .f32⟩
  | 106 => ⟨S8x20000, .f32⟩
  | 107 => ⟨S8x20000x1, .f32⟩
  | 108 => ⟨S8x20000, .f32⟩
  | 109 => ⟨S8x20000x1, .f32⟩
  | 110 => ⟨S8x20000, .f32⟩
  | 111 => ⟨S8x20000, .f32⟩
  | 112 => ⟨S_, .f32⟩
  | 113 => ⟨S8x20000, .f32⟩
  | 114 => ⟨S8x20000, .f32⟩
  | 115 => ⟨S8x20000, .f32⟩
  | 116 => ⟨S8x1, .f32⟩
  | 117 => ⟨S8x20000, .f32⟩
  | 118 => ⟨S8x20000, .f32⟩
  | 119 => ⟨S8x20000, .f32⟩
  | 120 => ⟨S_, .f32⟩
  | 121 => ⟨S8x20000, .f32⟩
  | 122 => ⟨S8x20000, .i1⟩
  | 123 => ⟨S8x20000, .f32⟩
  | 124 => ⟨S_, .f32⟩
  | 125 => ⟨S_, .f32⟩
  | 126 => ⟨S20000, .f32⟩
  | 127 => ⟨S8x20000, .f32⟩
  | _ => ⟨S8x20000x2, .f32⟩

abbrev hbmTy0_1 (i : Nat) : BufTy := match i % 128 with
  | 0 => ⟨S8x20000, .f32⟩
  | 1 => ⟨S_, .f32⟩
  | 2 => ⟨S8x20000, .f32⟩
  | 3 => ⟨S8x20000, .i1⟩
  | 4 => ⟨S8x20000, .i1⟩
  | 5 => ⟨S1x20000, .i32⟩
  | 6 => ⟨S8x1, .i32⟩
  | 7 => ⟨S8x20000, .i32⟩
  | 8 => ⟨S8x20000, .i32⟩
  | 9 => ⟨S8x20000, .i1⟩
  | 10 => ⟨S8x20000, .i1⟩
  | 11 => ⟨S8x20000, .i1⟩
  | 12 => ⟨S8x20000, .i1⟩
  | 13 => ⟨S1x8, .i32⟩
  | 14 => ⟨S_, .i32⟩
  | 15 => ⟨S300x8, .i32⟩
  | 16 => ⟨S1x8, .i1⟩
  | 17 => ⟨S_, .i32⟩
  | 18 => ⟨S300x8, .i1⟩
  | 19 => ⟨S_, .i32⟩
  | 20 => ⟨S_, .i32⟩
  | 21 => ⟨S_, .i32⟩
  | 22 => ⟨S300x8, .i32⟩
  | 23 => ⟨S300x8, .i1⟩
  | 24 => ⟨S_, .i32⟩
  | 25 => ⟨S300x8, .i32⟩
  | 26 => ⟨S300x8, .i32⟩
  | 27 => ⟨S300x8, .i32⟩
  | 28 => ⟨S8x300, .i32⟩
  | 29 => ⟨S8x300x1, .i32⟩
  | 30 => ⟨S8x300x4, .f32⟩
  | 31 => ⟨S8x300, .i1⟩
  | 32 => ⟨S8x300x1, .i1⟩
  | 33 => ⟨S_, .f32⟩
  | 34 => ⟨S_, .f32⟩
  | 35 => ⟨S8x300x4, .i1⟩
  | 36 => ⟨S300x4, .f32⟩
  | 37 => ⟨S8x300x4, .f32⟩
  | 38 => ⟨S8x300x4, .f32⟩
  | _ => ⟨S8x20000x2, .f32⟩

abbrev hbmTy (i : Nat) : BufTy := match i / 128 with
  | 0 => hbmTy0_0 i
  | 1 => hbmTy0_1 i
  | _ => ⟨S8x20000x2, .f32⟩

abbrev bufTy : (tb : Table) → Fin (tcTables nBuf tb) → BufTy
  | .hbm, ⟨i, _⟩ => hbmTy i
  | _, _ => ⟨S8x20000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_v2_0 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_c_4 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev main_v16_4 : Ref sig .tc := ⟨.hbm, 31, rfl⟩
abbrev main_v16_5 : Ref sig .tc := ⟨.hbm, 32, rfl⟩
abbrev main_while0c_c_12 : Ref sig .tc := ⟨.hbm, 33, rfl⟩
abbrev main_while0c_v28 : Ref sig .tc := ⟨.hbm, 34, rfl⟩
abbrev main_while0b_v28 : Ref sig .tc := ⟨.hbm, 35, rfl⟩
abbrev main_while0b_call1_v0 : Ref sig .tc := ⟨.hbm, 36, rfl⟩
abbrev main_while0b_call1_c : Ref sig .tc := ⟨.hbm, 37, rfl⟩
abbrev main_while0b_call1_c_0 : Ref sig .tc := ⟨.hbm, 38, rfl⟩
abbrev main_while0b_call1_v1_0 : Ref sig .tc := ⟨.hbm, 39, rfl⟩
abbrev main_while0b_v29 : Ref sig .tc := ⟨.hbm, 40, rfl⟩
abbrev main_while0b_call2_v0 : Ref sig .tc := ⟨.hbm, 41, rfl⟩
abbrev main_while0b_v30 : Ref sig .tc := ⟨.hbm, 42, rfl⟩
abbrev main_while0b_call3_v0 : Ref sig .tc := ⟨.hbm, 43, rfl⟩
abbrev main_while0b_v31 : Ref sig .tc := ⟨.hbm, 44, rfl⟩
abbrev main_while0b_v32 : Ref sig .tc := ⟨.hbm, 45, rfl⟩
abbrev main_while0b_v33 : Ref sig .tc := ⟨.hbm, 46, rfl⟩
abbrev main_while0b_v34 : Ref sig .tc := ⟨.hbm, 47, rfl⟩
abbrev main_while0b_v35 : Ref sig .tc := ⟨.hbm, 48, rfl⟩
abbrev main_while0b_v36 : Ref sig .tc := ⟨.hbm, 49, rfl⟩
abbrev main_while0b_v37 : Ref sig .tc := ⟨.hbm, 50, rfl⟩
abbrev main_while0b_v38 : Ref sig .tc := ⟨.hbm, 51, rfl⟩
abbrev main_while0b_v39 : Ref sig .tc := ⟨.hbm, 52, rfl⟩
abbrev main_while0b_v40 : Ref sig .tc := ⟨.hbm, 53, rfl⟩
abbrev main_while0b_v41 : Ref sig .tc := ⟨.hbm, 54, rfl⟩
abbrev main_while0b_v42 : Ref sig .tc := ⟨.hbm, 55, rfl⟩
abbrev main_while0b_v43 : Ref sig .tc := ⟨.hbm, 56, rfl⟩
abbrev main_while0b_v44 : Ref sig .tc := ⟨.hbm, 57, rfl⟩
abbrev main_while0b_v45 : Ref sig .tc := ⟨.hbm, 58, rfl⟩
abbrev main_while0b_v46 : Ref sig .tc := ⟨.hbm, 59, rfl⟩
abbrev main_while0b_v47 : Ref sig .tc := ⟨.hbm, 60, rfl⟩
abbrev main_while0b_v48 : Ref sig .tc := ⟨.hbm, 61, rfl⟩
abbrev main_while0b_v49 : Ref sig .tc := ⟨.hbm, 62, rfl⟩
abbrev main_while0b_v50 : Ref sig .tc := ⟨.hbm, 63, rfl⟩
abbrev main_while0b_v51 : Ref sig .tc := ⟨.hbm, 64, rfl⟩
abbrev main_while0b_v52 : Ref sig .tc := ⟨.hbm, 65, rfl⟩
abbrev main_while0b_v53 : Ref sig .tc := ⟨.hbm, 66, rfl⟩
abbrev main_while0b_v54 : Ref sig .tc := ⟨.hbm, 67, rfl⟩
abbrev main_while0b_v55 : Ref sig .tc := ⟨.hbm, 68, rfl⟩
abbrev main_while0b_v56 : Ref sig .tc := ⟨.hbm, 69, rfl⟩
abbrev main_while0b_v57 : Ref sig .tc := ⟨.hbm, 70, rfl⟩
abbrev main_while0b_v58 : Ref sig .tc := ⟨.hbm, 71, rfl⟩
abbrev main_while0b_v59 : Ref sig .tc := ⟨.hbm, 72, rfl⟩
abbrev main_while0b_v60 : Ref sig .tc := ⟨.hbm, 73, rfl⟩
abbrev main_while0b_cst_12 : Ref sig .tc := ⟨.hbm, 74, rfl⟩
abbrev main_while0b_v61 : Ref sig .tc := ⟨.hbm, 75, rfl⟩
abbrev main_while0b_v62 : Ref sig .tc := ⟨.hbm, 76, rfl⟩
abbrev main_while0b_v63 : Ref sig .tc := ⟨.hbm, 77, rfl⟩
abbrev main_while0b_cst_13 : Ref sig .tc := ⟨.hbm, 78, rfl⟩
abbrev main_while0b_v64 : Ref sig .tc := ⟨.hbm, 79, rfl⟩
abbrev main_while0b_v65 : Ref sig .tc := ⟨.hbm, 80, rfl⟩
abbrev main_while0b_v66 : Ref sig .tc := ⟨.hbm, 81, rfl⟩
abbrev main_while0b_v67 : Ref sig .tc := ⟨.hbm, 82, rfl⟩
abbrev main_while0b_v68 : Ref sig .tc := ⟨.hbm, 83, rfl⟩
abbrev main_while0b_v69 : Ref sig .tc := ⟨.hbm, 84, rfl⟩
abbrev main_while0b_v70 : Ref sig .tc := ⟨.hbm, 85, rfl⟩
abbrev main_while0b_v71 : Ref sig .tc := ⟨.hbm, 86, rfl⟩
abbrev main_while0b_cst_14 : Ref sig .tc := ⟨.hbm, 87, rfl⟩
abbrev main_while0b_v72 : Ref sig .tc := ⟨.hbm, 88, rfl⟩
abbrev main_while0b_v73 : Ref sig .tc := ⟨.hbm, 89, rfl⟩
abbrev main_while0b_v74 : Ref sig .tc := ⟨.hbm, 90, rfl⟩
abbrev main_while0b_v75 : Ref sig .tc := ⟨.hbm, 91, rfl⟩
abbrev main_while0b_v76 : Ref sig .tc := ⟨.hbm, 92, rfl⟩
abbrev main_while0b_v77 : Ref sig .tc := ⟨.hbm, 93, rfl⟩
abbrev main_while0b_v78 : Ref sig .tc := ⟨.hbm, 94, rfl⟩
abbrev main_while0b_cst_15 : Ref sig .tc := ⟨.hbm, 95, rfl⟩
abbrev main_while0b_v79 : Ref sig .tc := ⟨.hbm, 96, rfl⟩
abbrev main_while0b_v80 : Ref sig .tc := ⟨.hbm, 97, rfl⟩
abbrev main_while0b_v81 : Ref sig .tc := ⟨.hbm, 98, rfl⟩
abbrev main_while0b_v82 : Ref sig .tc := ⟨.hbm, 99, rfl⟩
abbrev main_while0b_v83 : Ref sig .tc := ⟨.hbm, 100, rfl⟩
abbrev main_while0b_v84 : Ref sig .tc := ⟨.hbm, 101, rfl⟩
abbrev main_while0b_v85 : Ref sig .tc := ⟨.hbm, 102, rfl⟩
abbrev main_while0b_v86 : Ref sig .tc := ⟨.hbm, 103, rfl⟩
abbrev main_while0b_cst_16 : Ref sig .tc := ⟨.hbm, 104, rfl⟩
abbrev main_while0b_v87 : Ref sig .tc := ⟨.hbm, 105, rfl⟩
abbrev main_while0b_v88 : Ref sig .tc := ⟨.hbm, 106, rfl⟩
abbrev main_while0b_v89 : Ref sig .tc := ⟨.hbm, 107, rfl⟩
abbrev main_while0b_v90 : Ref sig .tc := ⟨.hbm, 108, rfl⟩
abbrev main_while0b_v91 : Ref sig .tc := ⟨.hbm, 109, rfl⟩
abbrev main_while0b_v92 : Ref sig .tc := ⟨.hbm, 110, rfl⟩
abbrev main_while0b_v93 : Ref sig .tc := ⟨.hbm, 111, rfl⟩
abbrev main_while0b_cst_17 : Ref sig .tc := ⟨.hbm, 112, rfl⟩
abbrev main_while0b_v94 : Ref sig .tc := ⟨.hbm, 113, rfl⟩
abbrev main_while0b_v95 : Ref sig .tc := ⟨.hbm, 114, rfl⟩
abbrev main_while0b_v96 : Ref sig .tc := ⟨.hbm, 115, rfl⟩
abbrev main_while0b_v97 : Ref sig .tc := ⟨.hbm, 116, rfl⟩
abbrev main_while0b_v98 : Ref sig .tc := ⟨.hbm, 117, rfl⟩
abbrev main_while0b_v99 : Ref sig .tc := ⟨.hbm, 118, rfl⟩
abbrev main_while0b_v100 : Ref sig .tc := ⟨.hbm, 119, rfl⟩
abbrev main_while0b_cst_18 : Ref sig .tc := ⟨.hbm, 120, rfl⟩
abbrev main_while0b_v101 : Ref sig .tc := ⟨.hbm, 121, rfl⟩
abbrev main_while0b_v102 : Ref sig .tc := ⟨.hbm, 122, rfl⟩
abbrev main_while0b_v103 : Ref sig .tc := ⟨.hbm, 123, rfl⟩
abbrev main_while0b_cst_19 : Ref sig .tc := ⟨.hbm, 124, rfl⟩
abbrev main_while0b_call4_v0 : Ref sig .tc := ⟨.hbm, 125, rfl⟩
abbrev main_while0b_call4_v1 : Ref sig .tc := ⟨.hbm, 126, rfl⟩
abbrev main_while0b_call4_v2 : Ref sig .tc := ⟨.hbm, 127, rfl⟩
abbrev main_while0b_v104 : Ref sig .tc := ⟨.hbm, 128, rfl⟩
abbrev main_while0b_cst_20 : Ref sig .tc := ⟨.hbm, 129, rfl⟩
abbrev main_while0b_v105 : Ref sig .tc := ⟨.hbm, 130, rfl⟩
abbrev main_while0b_v106 : Ref sig .tc := ⟨.hbm, 131, rfl⟩
abbrev main_while0b_v107 : Ref sig .tc := ⟨.hbm, 132, rfl⟩
abbrev main_while0b_v108 : Ref sig .tc := ⟨.hbm, 133, rfl⟩
abbrev main_while0b_v109 : Ref sig .tc := ⟨.hbm, 134, rfl⟩
abbrev main_while0b_v110 : Ref sig .tc := ⟨.hbm, 135, rfl⟩
abbrev main_while0b_v111 : Ref sig .tc := ⟨.hbm, 136, rfl⟩
abbrev main_while0b_v112 : Ref sig .tc := ⟨.hbm, 137, rfl⟩
abbrev main_while0b_v113 : Ref sig .tc := ⟨.hbm, 138, rfl⟩
abbrev main_while0b_call5_v0 : Ref sig .tc := ⟨.hbm, 139, rfl⟩
abbrev main_while0b_v114 : Ref sig .tc := ⟨.hbm, 140, rfl⟩
abbrev main_while0b_call6_v0 : Ref sig .tc := ⟨.hbm, 141, rfl⟩
abbrev main_while0b_call6_c : Ref sig .tc := ⟨.hbm, 142, rfl⟩
abbrev main_while0b_v115 : Ref sig .tc := ⟨.hbm, 143, rfl⟩
abbrev main_while0b_call7_v0 : Ref sig .tc := ⟨.hbm, 144, rfl⟩
abbrev main_while0b_call7_c : Ref sig .tc := ⟨.hbm, 145, rfl⟩
abbrev main_while0b_v116 : Ref sig .tc := ⟨.hbm, 146, rfl⟩
abbrev main_while0b_c_21 : Ref sig .tc := ⟨.hbm, 147, rfl⟩
abbrev main_while0b_v117 : Ref sig .tc := ⟨.hbm, 148, rfl⟩
abbrev main_c_5 : Ref sig .tc := ⟨.hbm, 149, rfl⟩
abbrev main_v17 : Ref sig .tc := ⟨.hbm, 150, rfl⟩
abbrev main_v18 : Ref sig .tc := ⟨.hbm, 151, rfl⟩
abbrev main_c_6 : Ref sig .tc := ⟨.hbm, 152, rfl⟩
abbrev main_v19 : Ref sig .tc := ⟨.hbm, 153, rfl⟩
abbrev main_v20 : Ref sig .tc := ⟨.hbm, 154, rfl⟩
abbrev main_v21 : Ref sig .tc := ⟨.hbm, 155, rfl⟩
abbrev main_v22 : Ref sig .tc := ⟨.hbm, 156, rfl⟩
abbrev main_v23 : Ref sig .tc := ⟨.hbm, 157, rfl⟩
abbrev main_v24 : Ref sig .tc := ⟨.hbm, 158, rfl⟩
abbrev main_v25 : Ref sig .tc := ⟨.hbm, 159, rfl⟩
abbrev main_v26 : Ref sig .tc := ⟨.hbm, 160, rfl⟩
abbrev main_cst : Ref sig .tc := ⟨.hbm, 161, rfl⟩
abbrev main_call8_v0 : Ref sig .tc := ⟨.hbm, 162, rfl⟩
abbrev main_call8_v1 : Ref sig .tc := ⟨.hbm, 163, rfl⟩
abbrev main_call8_v2 : Ref sig .tc := ⟨.hbm, 164, rfl⟩
abbrev main_call8_v3 : Ref sig .tc := ⟨.hbm, 165, rfl⟩
abbrev main_v27 : Ref sig .tc := ⟨.hbm, 166, rfl⟩

abbrev nD : Nat := 1
abbrev τ : Topo := Topo.v7x

variable {F : FTy → Type} [FloatOps F]

abbrev main_while0_count : Scf.Loop 32 := ⟨0#32, 300#32, 1#32⟩
-- ==== Proof.PrintedBody.lean ====
/- The printed kernel runs safely from any contents: the loop keeps its scratch and its result at some contents. -/
module

public import proofs.«01_k».proof.Proof.Gen.Kernel.Frame.Runs

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What a trip needs and keeps: the scratch and the result at some contents. -/
abbrev anyAt (t : Dev nD) (arg5 : Memref sig .tc .vmem S300x8x4 .f32) (arg6 : Memref sig .tc .vmem S8x20480 .f32)
    (_k : ℕ) (_u : Unit) : sProp 𝕄 :=
  iprop((∃ l, owns (t : Thread nD τ) arg6 fullShare l) ∗ (∃ o, owns (t : Thread nD τ) arg5 fullShare o))

/-- One trip. -/
theorem any_step (𝒱 : Variants) (t : Dev nD) (bd : Option 𝒱.V) (E : Set ℕ) (arg0 : Memref sig .tc .vmem S8x20480 .f32) (harg0 : arg0.IsWhole) (arg1 : Memref sig .tc .vmem S8x20480 .f32) (harg1 : arg1.IsWhole) (arg2 : Memref sig .tc .vmem S8x20480 .f32) (harg2 : arg2.IsWhole) (arg3 : Memref sig .tc .vmem S8x20480 .f32) (harg3 : arg3.IsWhole) (arg4 : Memref sig .tc .vmem S8x20480 .f32) (harg4 : arg4.IsWhole) (arg5 : Memref sig .tc .vmem S300x8x4 .f32) (harg5 : arg5.IsWhole) (arg6 : Memref sig .tc .vmem S8x20480 .f32) (harg6 : arg6.IsWhole)
    (v5 v7 v9 v11 : Vec F S8x20480 .f32) (v20 : IVec S8x20480 32) (k : Fin k0_t1_loop.trips) (u : Unit) :
    anyAt t arg5 arg6 k.val u
      ⊢ (wp frame (wpE (defs₀ (F := F)) 𝒱 (t : Thread nD τ) bd) E
          (k0_t1_body (F := F) arg0 harg0 arg1 harg1 arg2 harg2 arg3 harg3 arg4 harg4 arg5 harg5 arg6 harg6 v5 v7 v9 v11 v20 k u)
          (anyAt t arg5 arg6 (k.val + 1)) : sProp 𝕄) := by
  have hk : k.val < 300 := Nat.lt_of_lt_of_le k.isLt k0_t1_abs.2.1
  unfold anyAt owns k0_t1_body
  iintro ⟨⟨%l, %f6, -, H6⟩, ⟨%o, %f5, -, H5⟩⟩
  sl_exec
  sl_step
  isplitl [H6]
  · iexists _; iexists _; isplitr
    swap; · iexact H6
    ipureintro; rfl
  · iexists _; iexists _; isplitr
    swap; · iexact H5
    ipureintro; rfl

/-- The loop. -/
theorem any_loop (𝒱 : Variants) (t : Dev nD) (bd : Option 𝒱.V) (E : Set ℕ) (arg0 : Memref sig .tc .vmem S8x20480 .f32) (harg0 : arg0.IsWhole) (arg1 : Memref sig .tc .vmem S8x20480 .f32) (harg1 : arg1.IsWhole) (arg2 : Memref sig .tc .vmem S8x20480 .f32) (harg2 : arg2.IsWhole) (arg3 : Memref sig .tc .vmem S8x20480 .f32) (harg3 : arg3.IsWhole) (arg4 : Memref sig .tc .vmem S8x20480 .f32) (harg4 : arg4.IsWhole) (arg5 : Memref sig .tc .vmem S300x8x4 .f32) (harg5 : arg5.IsWhole) (arg6 : Memref sig .tc .vmem S8x20480 .f32) (harg6 : arg6.IsWhole)
    (v5 v7 v9 v11 : Vec F S8x20480 .f32) (v20 : IVec S8x20480 32)
    {β : Type} (kk : Unit → Prog (TpuEff nD τ sig (Elt F) Λ₀ .tc) β) (K : β → sProp 𝕄) :
    anyAt t arg5 arg6 0 ()
      ⊢ iprop((∀ u, anyAt t arg5 arg6 300 u -∗ wp frame (wpE (defs₀ (F := F)) 𝒱 (t : Thread nD τ) bd) E (kk u) K)
        -∗ wp frame (wpE (defs₀ (F := F)) 𝒱 (t : Thread nD τ) bd) E
          (k0_t1_loop.for k0_t1_ok PUnit.unit (k0_t1_body (F := F) arg0 harg0 arg1 harg1 arg2 harg2 arg3 harg3 arg4 harg4 arg5 harg5 arg6 harg6 v5 v7 v9 v11 v20) >>= kk) K) :=
  Scf.wp_for_bind frame (wpE (defs₀ (F := F)) 𝒱 (t : Thread nD τ) bd) E k0_t1_loop.lb k0_t1_loop.ub k0_t1_loop.st k0_t1_ok PUnit.unit _
    (anyAt t arg5 arg6) (any_step 𝒱 t bd E arg0 harg0 arg1 harg1 arg2 harg2 arg3 harg3 arg4 harg4 arg5 harg5 arg6 harg6 v5 v7 v9 v11 v20)

/-- The kernel on whole memrefs: its inputs kept, its result at some contents. -/
theorem body_any (t : Dev nD) (arg0 : Memref sig .tc .vmem S8x20480 .f32) (harg0 : arg0.IsWhole) (arg1 : Memref sig .tc .vmem S8x20480 .f32) (harg1 : arg1.IsWhole) (arg2 : Memref sig .tc .vmem S8x20480 .f32) (harg2 : arg2.IsWhole) (arg3 : Memref sig .tc .vmem S8x20480 .f32) (harg3 : arg3.IsWhole) (arg4 : Memref sig .tc .vmem S8x20480 .f32) (harg4 : arg4.IsWhole) (arg5 : Memref sig .tc .vmem S300x8x4 .f32) (harg5 : arg5.IsWhole) (arg6 : Memref sig .tc .vmem S8x20480 .f32) (harg6 : arg6.IsWhole)
    (s a b c d : Vec F S8x20480 .f32) (E : Set ℕ) (K : PUnit → sProp 𝕄) :
    iprop(owns (t : Thread nD τ) arg0 fullShare s ∗ owns (t : Thread nD τ) arg1 fullShare a ∗ owns (t : Thread nD τ) arg2 fullShare b ∗ owns (t : Thread nD τ) arg3 fullShare c ∗ owns (t : Thread nD τ) arg4 fullShare d ∗ (∃ o, owns (t : Thread nD τ) arg5 fullShare o) ∗ (∃ l, owns (t : Thread nD τ) arg6 fullShare l)
        ∗ (iprop(owns (t : Thread nD τ) arg0 fullShare s ∗ owns (t : Thread nD τ) arg1 fullShare a ∗ owns (t : Thread nD τ) arg2 fullShare b ∗ owns (t : Thread nD τ) arg3 fullShare c ∗ owns (t : Thread nD τ) arg4 fullShare d ∗ (∃ o, owns (t : Thread nD τ) arg5 fullShare o) ∗ (∃ l, owns (t : Thread nD τ) arg6 fullShare l)) -∗ K ⟨⟩))
      ⊢ wp frame (wpE (defs₀ (F := F)) Variants.none t none) E (cc0__nms_kernel arg0 harg0 arg1 harg1 arg2 harg2 arg3 harg3 arg4 harg4 arg5 harg5 arg6 harg6) K := by
  rw [cc0__nms_kernel_eq_skeleton]
  unfold cc0__nms_kernel_skel
  unfold owns
  iintro ⟨⟨%f0, %h0, H0⟩, ⟨%f1, %h1, H1⟩, ⟨%f2, %h2, H2⟩, ⟨%f3, %h3, H3⟩, ⟨%f4, %h4, H4⟩, ⟨%o, %f5, -, H5⟩, ⟨%l, %f6, -, H6⟩, Hk⟩
  simp only [Prog.lift, Prog.bind_op, Prog.bind_ret]
  sl_steps
  iapply (any_loop Variants.none t none E arg0 harg0 arg1 harg1 arg2 harg2 arg3 harg3 arg4 harg4 arg5 harg5 arg6 harg6 _ _ _ _ _ _ _) $$ [H5 H6]
  · unfold anyAt owns
    isplitl [H6]
    · iexists _; iexists _; isplitr
      swap; · iexact H6
      ipureintro; rfl
    · iexists _; iexists _; isplitr
      swap; · iexact H5
      ipureintro; rfl
  iintro %u ⟨⟨%l', H6⟩, ⟨%o', H5⟩⟩
  sl_step
  iapply Hk
  isplitl [H0]; · iexists _; isplitr; swap; iexact H0; ipureintro; exact h0
  isplitl [H1]; · iexists _; isplitr; swap; iexact H1; ipureintro; exact h1
  isplitl [H2]; · iexists _; isplitr; swap; iexact H2; ipureintro; exact h2
  isplitl [H3]; · iexists _; isplitr; swap; iexact H3; ipureintro; exact h3
  isplitl [H4]; · iexists _; isplitr; swap; iexact H4; ipureintro; exact h4
  unfold owns
  isplitl [H5]; · iexists _; iexact H5
  iexists _; iexact H6

end Cert.Kernel.Own

end
-- ==== Proof.PrintedFrame.lean ====
/- The frame of the printed kernel: the launch over the body's triple. -/
module

public import proofs.«01_k».proof.Proof.PrintedBody
public import Idealize.ShloMosaic.Lib.Claim

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's window: nothing is said of its contents here. -/
def forgets0 : Fin 6 → Bool := fun w => w.val == 5

/-- The region's proof data: every input block kept, the result's contents not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

/-- The arrays as the region finds them. -/
theorem A_eq (c : Dev nD) (w : Fin cfg0.W) : (dats m 0 c).A w = V m c (Pipeline.arrRef spec0 w) := by
  dsimp only [dats]

/-- What the body leaves in each window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's buffer holds its block before the body. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

/-- The body keeps its windows' contents as stated. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩⟩
  iapply (body_any c _ (hs0_0 t) _ (hs0_1 t) _ (hs0_2 t) _ (hs0_3 t) _ (hs0_4 t) _ (hs0_5 t) _ (Memref.isWhole_whole _)
    (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, H5, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row. -/
theorem defs₀_row (t : Fin cfg0.N) :
    defs₀ (F := F) .tc cfg0.body (cfg0.bodyArgs t (cfg0.slots t)) = bodyAt0 t := by
  unfold defs₀; rw [Defs.onTc_tc]

/-- The body obligation. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

/-- What the line after the region writes. -/
def resultRefs : Finset (Ref sig .tc) := {main_v13}

theorem tail_writes : ∀ ops ∈ ([hostOps1] : List (List (HloOp τ sig (Elt F)))), ∀ op ∈ ops,
    ∀ b : Ref sig .tc, Proc.devRef .tc b ∈ op.writes → b ∈ resultRefs := by
  intro ops hops op hop
  simp only [List.mem_cons, List.mem_nil_iff, or_false] at hops
  subst hops
  simp only [hostOps1, List.mem_cons, List.mem_nil_iff, or_false] at hop
  subst hop
  intro b hb
  simp only [StableHlo.unary_writes, Finset.mem_singleton] at hb
  cases Proc.devRef_injective _ hb
  decide

set_option backward.isDefEq.respectTransparency.types false in
set_option maxHeartbeats 800000 in
/-- The launch, with every counter at zero at the end. -/
theorem run_main_quiescent : θ_run defs (onTc (τ := τ) (main (F := F))) (s₀ m ρ) (fun r => (Pipeline.RDat.FramePostR (cfgs 0) (fun c => (dats m 0 c).toRForget forgets0) resultRefs (V m)) r ∧ r.2.sem = fun _ => 0) :=
  Pipeline.θ_run_frame_around_T_forget (Q' := _) cfgs (dats m) (0 : Fin 1) launch0 defs₀ Variants.none forgets0 resultRefs m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := tail_writes)
    (hmain := hmain m Variants.none) (hA := A_eq m) (hΦ := fun _ _ => rfl)

/-- The launch without the counters. -/
theorem run_main : θ_run defs (onTc (τ := τ) (main (F := F))) (s₀ m ρ) (Pipeline.RDat.FramePostR (cfgs 0) (fun c => (dats m 0 c).toRForget forgets0) resultRefs (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c)⟩)
    (run_main m ρ)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Own

end
-- ==== Proof.KernelTrip.lean ====
/- One trip of the kernel's loop as a function of the scores still in play.

   The kernel keeps, in a scratch buffer, the scores of the boxes still in play (minus infinity for a box taken or
   suppressed). A trip reads that buffer whole, stores the next one whole and stores one row of the result. This module
   names the next buffer (`nextLive`) and the row (`rowOf`) in the words of the kernel's own operations, and proves that
   one trip does exactly that to the two buffers, whatever memrefs it is given. -/
module

public import proofs.«01_k».proof.Proof.Gen.KernelIdeal.Frame.Runs
public import Idealize.ShloMosaic.Lib.WritesUnit

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The position of each lane in its row. -/
def lanes : IVec S8x20480 32 := iota .tc S8x20480 32 [1] iota_S8x20480_d1_w32

/-- The scores in play after a trip that finds `L`: minus infinity at the box taken and at the boxes it suppresses. -/
def nextLive (a b c d L : Vec F S8x20480 .f32) : Vec F S8x20480 .f32 :=
  k0_pay6 a b c d L (k0_pay10 lanes L) (k0_pay16 (k0_pay2 a) (k0_pay3 b) (k0_pay4 c) (k0_pay5 d) lanes L)
    (k0_pay17 (k0_pay2 a) (k0_pay4 c) lanes L) (k0_pay18 (k0_pay3 b) (k0_pay5 d) lanes L)

/-- The row of the result that a trip finding `L` stores. -/
def rowOf (a b c d L : Vec F S8x20480 .f32) : FVec F S1x8x4 .f32 :=
  k0_pay7 (k0_pay9 L) (k0_pay12 (k0_pay2 a) lanes L) (k0_pay13 (k0_pay3 b) lanes L) (k0_pay14 (k0_pay4 c) lanes L)
    (k0_pay15 (k0_pay5 d) lanes L)

/-- A load of the whole view reads the whole view. -/
theorem readAt_all {κ : Kind} {sp : Space} {Val : EltTy → Type} (v : View sig κ sp S8x20480 .f32) (f : v.ty.Contents Val) :
    v.readAt Val (Rect.unit (s := S8x20480) ![0, 0] S8x20480.size inb_S8x20480_S8x20480_0_0).toLoadRect f = v.read Val f := by
  funext x
  rw [View.readAt_apply]
  congr 1
  funext a
  apply Fin.ext
  fin_cases a
  · exact (Nat.zero_add _).trans (Nat.one_mul _)
  · exact (Nat.zero_add _).trans (Nat.one_mul _)

/-- A store to the whole view leaves its payload. -/
theorem read_write_all {κ : Kind} {sp : Space} {Val : EltTy → Type} (v : View sig κ sp S8x20480 .f32) (f : v.ty.Contents Val)
    (w : S8x20480.Idx → Val .f32) :
    v.read Val (v.writes Val f [⟨Rect.unit (s := S8x20480) ![0, 0] S8x20480.size inb_S8x20480_S8x20480_0_0, w⟩]) = w := by
  funext y
  refine View.read_writes_cons_unit_of_mem v f _ w [] y y rfl fun a => ?_
  fin_cases a
  · show (y 0).val = 0 + (y 0).val; omega
  · show (y 1).val = 0 + (y 1).val; omega

/-- A place of a row of the result, as a place of a block of one row. -/
def inRow (y : S300x8x4.Idx) : S1x8x4.Idx := fun a => ⟨![0, (y 1).val, (y 2).val] a, by
  fin_cases a
  · exact Nat.zero_lt_one
  · exact (y 1).isLt
  · exact (y 2).isLt⟩

/-- A store of one row leaves its payload in that row and every other row as it was. -/
theorem read_write_row {κ : Kind} {sp : Space} {Val : EltTy → Type} (v : View sig κ sp S300x8x4 .f32) (f : v.ty.Contents Val)
    (k : Fin k0_t1_loop.trips) (w : S1x8x4.Idx → Val .f32) (y : S300x8x4.Idx) :
    v.read Val (v.writes Val f [⟨Rect.unit (s := S300x8x4) (k0_off1 k) S1x8x4.size (k0_off1_inb k), w⟩]) y
      = if (y 0).val = k.val then w (inRow y) else v.read Val f y := by
  split
  next h =>
    refine View.read_writes_cons_unit_of_mem v f _ w [] y (inRow y) (k0_off1_eq k) fun a => ?_
    fin_cases a
    · show (y 0).val = k.val + 0; omega
    · show (y 1).val = 0 + (y 1).val; omega
    · show (y 2).val = 0 + (y 2).val; omega
  next h =>
    refine (View.read_writes_cons_unit_of_not_mem v f (k0_off1_inb k) w [] y (k0_off1_eq k) 0 ?_)
    show (y 0).val < k.val ∨ k.val + 1 ≤ (y 0).val
    omega

/-- One trip: the scratch from `L` to `nextLive L`, row `k` of the result to `rowOf L`, the other rows kept. -/
theorem trip_run (𝒱 : Variants) (c : Dev nD) (bd : Option 𝒱.V) (E : Set ℕ) (arg0 : Memref sig .tc .vmem S8x20480 .f32) (harg0 : arg0.IsWhole) (arg1 : Memref sig .tc .vmem S8x20480 .f32) (harg1 : arg1.IsWhole) (arg2 : Memref sig .tc .vmem S8x20480 .f32) (harg2 : arg2.IsWhole) (arg3 : Memref sig .tc .vmem S8x20480 .f32) (harg3 : arg3.IsWhole) (arg4 : Memref sig .tc .vmem S8x20480 .f32) (harg4 : arg4.IsWhole) (arg5 : Memref sig .tc .vmem S300x8x4 .f32) (harg5 : arg5.IsWhole) (arg6 : Memref sig .tc .vmem S8x20480 .f32) (harg6 : arg6.IsWhole)
    (v5 v7 v9 v11 L : Vec F S8x20480 .f32) (d : Vec F S300x8x4 .f32) (k : Fin k0_t1_loop.trips) :
    iprop(owns (c : Thread nD τ) arg6 fullShare L ∗ owns (c : Thread nD τ) arg5 fullShare d)
      ⊢ (wp frame (wpE (defs₀ (F := F)) 𝒱 (c : Thread nD τ) bd) E
          (k0_t1_body (F := F) arg0 harg0 arg1 harg1 arg2 harg2 arg3 harg3 arg4 harg4 arg5 harg5 arg6 harg6 v5 v7 v9 v11 lanes k PUnit.unit)
          (fun _ => iprop(owns (c : Thread nD τ) arg6 fullShare (nextLive v5 v7 v9 v11 L)
            ∗ owns (c : Thread nD τ) arg5 fullShare (fun y => if (y 0).val = k.val then rowOf v5 v7 v9 v11 L (inRow y) else d y))) : sProp 𝕄) := by
  have hk : k.val < 300 := Nat.lt_of_lt_of_le k.isLt k0_t1_abs.2.1
  unfold owns k0_t1_body
  iintro ⟨⟨%f6, %h6, H6⟩, ⟨%f5, %h5, H5⟩⟩
  sl_exec
  sl_step
  isplitl [H6]
  · iexists _; isplitr
    swap; · iexact H6
    ipureintro
    rw [read_write_all]
    show nextLive v5 v7 v9 v11 (arg6.view.readAt (Elt F) (Rect.unit (s := S8x20480) ![0, 0] S8x20480.size inb_S8x20480_S8x20480_0_0).toLoadRect f6) = _
    rw [readAt_all, h6]
  · iexists _; isplitr
    swap; · iexact H5
    ipureintro
    funext y
    rw [read_write_row, h5]
    show (if (y 0).val = k.val then rowOf v5 v7 v9 v11 (arg6.view.readAt (Elt F) (Rect.unit (s := S8x20480) ![0, 0] S8x20480.size inb_S8x20480_S8x20480_0_0).toLoadRect f6) (inRow y) else d y) = _
    rw [readAt_all, h6]

end Cert.KernelIdeal.Own

end
-- ==== Proof.KernelBody.lean ====
/- The whole kernel as a function of its five blocks.

   The kernel copies the scores into its scratch and then runs its trips. `liveAt k` is the scratch before trip `k` and
   `nmsRows` the result, row `k` being what a trip that finds `liveAt k` stores. The body's triple goes through the loop
   once, by one invariant over a symbolic trip. -/
module

public import proofs.«01_k».proof.Proof.KernelTrip

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The scores in play before trip `k`. -/
def liveAt (s a b c d : Vec F S8x20480 .f32) : ℕ → Vec F S8x20480 .f32
  | 0 => k0_pay1 s
  | k + 1 => nextLive a b c d (liveAt s a b c d k)

/-- The kernel's result: row `k` is what the trip that finds `liveAt k` stores. -/
def nmsRows (s a b c d : Vec F S8x20480 .f32) : Vec F S300x8x4 .f32 :=
  fun y => rowOf a b c d (liveAt s a b c d (y 0).val) (inRow y)

/-- The loop runs 300 trips. -/
theorem trips_eq : Scf.trips k0_t1_loop.lb k0_t1_loop.ub k0_t1_loop.st = 300 := by decide

/-- Before trip `k`: the scratch at `liveAt k`, the rows before `k` stored. -/
abbrev loopAt (t : Dev nD) (arg5 : Memref sig .tc .vmem S300x8x4 .f32) (arg6 : Memref sig .tc .vmem S8x20480 .f32)
    (s a b c d : Vec F S8x20480 .f32) (k : ℕ) (_u : Unit) : sProp 𝕄 :=
  iprop(owns (t : Thread nD τ) arg6 fullShare (liveAt s a b c d k)
    ∗ (∃ o, owns (t : Thread nD τ) arg5 fullShare o ∗ ⌜∀ y, (y 0).val < k → o y = nmsRows s a b c d y⌝))

/-- One trip keeps `loopAt`. -/
theorem loop_step (𝒱 : Variants) (t : Dev nD) (bd : Option 𝒱.V) (E : Set ℕ) (arg0 : Memref sig .tc .vmem S8x20480 .f32) (harg0 : arg0.IsWhole) (arg1 : Memref sig .tc .vmem S8x20480 .f32) (harg1 : arg1.IsWhole) (arg2 : Memref sig .tc .vmem S8x20480 .f32) (harg2 : arg2.IsWhole) (arg3 : Memref sig .tc .vmem S8x20480 .f32) (harg3 : arg3.IsWhole) (arg4 : Memref sig .tc .vmem S8x20480 .f32) (harg4 : arg4.IsWhole) (arg5 : Memref sig .tc .vmem S300x8x4 .f32) (harg5 : arg5.IsWhole) (arg6 : Memref sig .tc .vmem S8x20480 .f32) (harg6 : arg6.IsWhole)
    (s a b c d : Vec F S8x20480 .f32) (k : Fin k0_t1_loop.trips) (u : Unit) :
    loopAt t arg5 arg6 s a b c d k.val u
      ⊢ wp frame (wpE (defs₀ (F := F)) 𝒱 (t : Thread nD τ) bd) E
          (k0_t1_body (F := F) arg0 harg0 arg1 harg1 arg2 harg2 arg3 harg3 arg4 harg4 arg5 harg5 arg6 harg6 a b c d lanes k u)
          (loopAt t arg5 arg6 s a b c d (k.val + 1)) := by
  iintro ⟨H6, ⟨%o, H5, %ho⟩⟩
  iapply (wp_wand_r Idealize.ShloMosaic.frame (wpE (defs₀ (F := F)) 𝒱 (t : Thread nD τ) bd) E)
  isplitl [H6 H5]
  · iapply (trip_run 𝒱 t bd E arg0 harg0 arg1 harg1 arg2 harg2 arg3 harg3 arg4 harg4 arg5 harg5 arg6 harg6 a b c d (liveAt s a b c d k.val) o k)
    isplitl [H6]; · iexact H6
    iexact H5
  · iintro %_ ⟨H6, H5⟩
    isplitl [H6]; · iexact H6
    iexists _; isplitl [H5]; · iexact H5
    ipureintro
    intro y hy
    show (if (y 0).val = k.val then rowOf a b c d (liveAt s a b c d k.val) (inRow y) else o y) = _
    by_cases h : (y 0).val = k.val
    · rw [if_pos h, nmsRows, h]
    · rw [if_neg h]; exact ho y (by omega)

/-- The loop from `loopAt 0`: what follows it may use `loopAt 300`. -/
theorem loop_run (𝒱 : Variants) (t : Dev nD) (bd : Option 𝒱.V) (E : Set ℕ) (arg0 : Memref sig .tc .vmem S8x20480 .f32) (harg0 : arg0.IsWhole) (arg1 : Memref sig .tc .vmem S8x20480 .f32) (harg1 : arg1.IsWhole) (arg2 : Memref sig .tc .vmem S8x20480 .f32) (harg2 : arg2.IsWhole) (arg3 : Memref sig .tc .vmem S8x20480 .f32) (harg3 : arg3.IsWhole) (arg4 : Memref sig .tc .vmem S8x20480 .f32) (harg4 : arg4.IsWhole) (arg5 : Memref sig .tc .vmem S300x8x4 .f32) (harg5 : arg5.IsWhole) (arg6 : Memref sig .tc .vmem S8x20480 .f32) (harg6 : arg6.IsWhole)
    (s a b c d : Vec F S8x20480 .f32) {β : Type} (kk : Unit → Prog (TpuEff nD τ sig (Elt F) Λ₀ .tc) β) (K : β → sProp 𝕄) :
    loopAt t arg5 arg6 s a b c d 0 ()
      ⊢ iprop((∀ u, loopAt t arg5 arg6 s a b c d 300 u -∗ wp frame (wpE (defs₀ (F := F)) 𝒱 (t : Thread nD τ) bd) E (kk u) K)
        -∗ wp frame (wpE (defs₀ (F := F)) 𝒱 (t : Thread nD τ) bd) E
          (k0_t1_loop.for k0_t1_ok PUnit.unit (k0_t1_body (F := F) arg0 harg0 arg1 harg1 arg2 harg2 arg3 harg3 arg4 harg4 arg5 harg5 arg6 harg6 a b c d lanes) >>= kk) K) :=
  Scf.wp_for_bind frame (wpE (defs₀ (F := F)) 𝒱 (t : Thread nD τ) bd) E k0_t1_loop.lb k0_t1_loop.ub k0_t1_loop.st k0_t1_ok PUnit.unit _
    (loopAt t arg5 arg6 s a b c d)
    (loop_step 𝒱 t bd E arg0 harg0 arg1 harg1 arg2 harg2 arg3 harg3 arg4 harg4 arg5 harg5 arg6 harg6 s a b c d)

/-- The kernel on whole memrefs: its five inputs kept, its result `nmsRows` of them. -/
theorem body_run (t : Dev nD) (arg0 : Memref sig .tc .vmem S8x20480 .f32) (harg0 : arg0.IsWhole) (arg1 : Memref sig .tc .vmem S8x20480 .f32) (harg1 : arg1.IsWhole) (arg2 : Memref sig .tc .vmem S8x20480 .f32) (harg2 : arg2.IsWhole) (arg3 : Memref sig .tc .vmem S8x20480 .f32) (harg3 : arg3.IsWhole) (arg4 : Memref sig .tc .vmem S8x20480 .f32) (harg4 : arg4.IsWhole) (arg5 : Memref sig .tc .vmem S300x8x4 .f32) (harg5 : arg5.IsWhole) (arg6 : Memref sig .tc .vmem S8x20480 .f32) (harg6 : arg6.IsWhole)
    (s a b c d : Vec F S8x20480 .f32) (E : Set ℕ) (K : PUnit → sProp 𝕄) :
    iprop(owns (t : Thread nD τ) arg0 fullShare s ∗ owns (t : Thread nD τ) arg1 fullShare a ∗ owns (t : Thread nD τ) arg2 fullShare b ∗ owns (t : Thread nD τ) arg3 fullShare c ∗ owns (t : Thread nD τ) arg4 fullShare d ∗ (∃ o, owns (t : Thread nD τ) arg5 fullShare o) ∗ (∃ l, owns (t : Thread nD τ) arg6 fullShare l)
        ∗ (iprop(owns (t : Thread nD τ) arg0 fullShare s ∗ owns (t : Thread nD τ) arg1 fullShare a ∗ owns (t : Thread nD τ) arg2 fullShare b ∗ owns (t : Thread nD τ) arg3 fullShare c ∗ owns (t : Thread nD τ) arg4 fullShare d ∗ owns (t : Thread nD τ) arg5 fullShare (nmsRows s a b c d) ∗ (∃ l, owns (t : Thread nD τ) arg6 fullShare l)) -∗ K ⟨⟩))
      ⊢ wp frame (wpE (defs₀ (F := F)) Variants.none t none) E (cc0__nms_kernel arg0 harg0 arg1 harg1 arg2 harg2 arg3 harg3 arg4 harg4 arg5 harg5 arg6 harg6) K := by
  rw [cc0__nms_kernel_eq_skeleton]
  unfold cc0__nms_kernel_skel
  unfold owns
  iintro ⟨⟨%f0, %h0, H0⟩, ⟨%f1, %h1, H1⟩, ⟨%f2, %h2, H2⟩, ⟨%f3, %h3, H3⟩, ⟨%f4, %h4, H4⟩, ⟨%o, %f5, -, H5⟩, ⟨%l, %f6, -, H6⟩, Hk⟩
  simp only [Prog.lift, Prog.bind_op, Prog.bind_ret]
  sl_steps
  have e0 := (readAt_all arg0.view f0).trans h0
  have e1 := (readAt_all arg1.view f1).trans h1
  have e2 := (readAt_all arg2.view f2).trans h2
  have e3 := (readAt_all arg3.view f3).trans h3
  have e4 := (readAt_all arg4.view f4).trans h4
  iapply (loop_run Variants.none t none E arg0 harg0 arg1 harg1 arg2 harg2 arg3 harg3 arg4 harg4 arg5 harg5 arg6 harg6
      (arg0.view.readAt (Elt F) (Rect.unit (s := S8x20480) ![0, 0] S8x20480.size inb_S8x20480_S8x20480_0_0).toLoadRect f0)
      (arg1.view.readAt (Elt F) (Rect.unit (s := S8x20480) ![0, 0] S8x20480.size inb_S8x20480_S8x20480_0_0).toLoadRect f1)
      (arg2.view.readAt (Elt F) (Rect.unit (s := S8x20480) ![0, 0] S8x20480.size inb_S8x20480_S8x20480_0_0).toLoadRect f2)
      (arg3.view.readAt (Elt F) (Rect.unit (s := S8x20480) ![0, 0] S8x20480.size inb_S8x20480_S8x20480_0_0).toLoadRect f3)
      (arg4.view.readAt (Elt F) (Rect.unit (s := S8x20480) ![0, 0] S8x20480.size inb_S8x20480_S8x20480_0_0).toLoadRect f4) _ _) $$ [H5 H6]
  · unfold loopAt owns
    isplitl [H6]
    · iexists _; isplitr
      swap; · iexact H6
      ipureintro
      exact read_write_all arg6.view f6 _
    · iexists _; isplitl [H5]
      · iexists _; isplitr
        swap; · iexact H5
        ipureintro; rfl
      ipureintro
      intro y hy; exact absurd hy (Nat.not_lt_zero _)
  rw [e0, e1, e2, e3, e4]
  iintro %u ⟨H6, ⟨%o', H5, %ho⟩⟩
  sl_step
  iapply Hk
  isplitl [H0]; · iexists _; isplitr; swap; iexact H0; ipureintro; exact h0
  isplitl [H1]; · iexists _; isplitr; swap; iexact H1; ipureintro; exact h1
  isplitl [H2]; · iexists _; isplitr; swap; iexact H2; ipureintro; exact h2
  isplitl [H3]; · iexists _; isplitr; swap; iexact H3; ipureintro; exact h3
  isplitl [H4]; · iexists _; isplitr; swap; iexact H4; ipureintro; exact h4
  obtain rfl : o' = nmsRows s a b c d := funext fun y => ho y (Nat.lt_of_lt_of_eq (y 0).isLt trips_eq.symm)
  unfold owns
  isplitl [H5]; · iexact H5
  iexists _; iexact H6

end Cert.KernelIdeal.Own

end
-- ==== Proof.KernelFrame.lean ====
/- The frame of the ideal kernel: the body's triple as the obligation of its region, and the launch. -/
module

public import proofs.«01_k».proof.Proof.KernelBody
public import Idealize.ShloMosaic.Lib.Claim

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region's proof data: every input block kept, the result block `nmsRows` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => nmsRows (iblk m c 0 t) (iblk m c 1 t) (iblk m c 2 t) (iblk m c 3 t) (iblk m c 4 t)
  Φ _ := Pipeline.ΦA spec0 c
  q _ := fullShare
  owed _ := 0

/-- The arrays as the region finds them. -/
theorem A_eq (c : Dev nD) (w : Fin cfg0.W) : (dats m 0 c).A w = V m c (Pipeline.arrRef spec0 w) := by
  dsimp only [dats]

/-- What the body leaves in each window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = nmsRows (iblk m c 0 t) (iblk m c 1 t) (iblk m c 2 t) (iblk m c 3 t) (iblk m c 4 t) := by dsimp only [dats]

/-- Each input's buffer holds its block before the body. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body keeps its windows' contents as stated. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩⟩
  iapply (body_run c _ (hs0_0 t) _ (hs0_1 t) _ (hs0_2 t) _ (hs0_3 t) _ (hs0_4 t) _ (hs0_5 t) _ (Memref.isWhole_whole _)
    (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, H5, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row. -/
theorem defs₀_row (t : Fin cfg0.N) :
    defs₀ (F := F) .tc cfg0.body (cfg0.bodyArgs t (cfg0.slots t)) = bodyAt0 t := by
  unfold defs₀; rw [Defs.onTc_tc]

/-- The body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch, with every counter at zero at the end. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The launch without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Own

end
-- ==== Proof.RefOps.lean ====
/-
The reference's operations.

The reference's host program as lists of operations: three stretches before the loop of 300 trips, the
loop body's twelve, and two after the loop. Each list comes with the fact that it touches TensorCore
references only, that it allocates nothing, and with the references it writes.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

set_option maxRecDepth 1832

@[expose] public section

namespace Cert.ReferenceIdeal.Own

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- The class scores: slice, reshape and negation. -/
abbrev scoreOps : List (HloOp τ sig (Elt F)) :=
  [ StableHlo.unary main_arg0 main_v0 ((extractStridedSlice S8x20000x1 ![0, 0, 1] · slices_S8x20000x2_S8x20000x1_0_0_1) : (⟨S8x20000x2, .f32⟩ : BufTy).Contents (Elt F) → (⟨S8x20000x1, .f32⟩ : BufTy).Contents (Elt F)),
    StableHlo.reshape main_v0 main_v1 (rfl : (.f32 : EltTy) = .f32) shapeCasts_S8x20000x1_S8x20000,
    StableHlo.unary main_v1 main_v2 (Host.negf : (⟨S8x20000, .f32⟩ : BufTy).Contents (Elt F) → (⟨S8x20000, .f32⟩ : BufTy).Contents (Elt F)) ]
theorem scoreOps_sub : (scoreOps : List (HloOp τ sig (Elt F))).Forall fun op => op.bufs ⊆ StableHlo.tcRefs τ sig :=
  ⟨StableHlo.unary_bufs_sub .., StableHlo.reshape_bufs_sub .., StableHlo.unary_bufs_sub ..⟩
theorem scoreOps_fresh : (scoreOps : List (HloOp τ sig (Elt F))).Forall fun op => op.fresh = ∅ :=
  StableHlo.forall_fresh_of_map rfl
/-- What `scoreOps` writes. -/
abbrev scoreOps_W : List (Ref sig .tc) := [main_v0, main_v1, main_v2]
theorem scoreOps_writes : (scoreOps : List (HloOp τ sig (Elt F))).Forall fun op => op.writes ⊆ (scoreOps_W.map (Proc.devRef (τ := τ) .tc)).toFinset :=
  StableHlo.forall_writes_sub_of_map rfl

/-- The stable argsort of the negated scores. -/
abbrev sortOps : List (HloOp τ sig (Elt F)) :=
  [ StableHlo.TRef.nullary (.of main_call0_v0 : StableHlo.TRef sig ⟨S20000, .i32⟩) (iotaInDim S20000 32 0),
    StableHlo.TRef.unary (.of main_call0_v0 : StableHlo.TRef sig ⟨S20000, .i32⟩) (.of main_call0_v1 : StableHlo.TRef sig ⟨S8x20000, .i32⟩) (broadcastInDim S8x20000 ![1] bcast_S20000_S8x20000_1),
    StableHlo.TRef.binary (.of main_v2 : StableHlo.TRef sig ⟨S8x20000, .f32⟩) (.of main_call0_v1 : StableHlo.TRef sig ⟨S8x20000, .i32⟩) (.of main_call0_v2_0 : StableHlo.TRef sig ⟨S8x20000, .f32⟩) (fun x y => (Host.sort2 S8x20000 1 comparator_f32_i32_d1 x y).1),
    StableHlo.TRef.binary (.of main_v2 : StableHlo.TRef sig ⟨S8x20000, .f32⟩) (.of main_call0_v1 : StableHlo.TRef sig ⟨S8x20000, .i32⟩) (.of main_v3 : StableHlo.TRef sig ⟨S8x20000, .i32⟩) (fun x y => (Host.sort2 S8x20000 1 comparator_f32_i32_d1 x y).2) ]
theorem sortOps_sub : (sortOps : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub ..⟩
theorem sortOps_fresh : (sortOps : List (HloOp τ sig (Elt F))).Forall fun op => op.fresh = ∅ :=
  StableHlo.forall_fresh_of_map rfl
/-- What `sortOps` writes. -/
abbrev sortOps_W : List (Ref sig .tc) := [main_call0_v0, main_call0_v1, main_call0_v2_0, main_v3]
theorem sortOps_writes : (sortOps : List (HloOp τ sig (Elt F))).Forall fun op => op.writes ⊆ (sortOps_W.map (Proc.devRef (τ := τ) .tc)).toFinset :=
  StableHlo.forall_writes_sub_of_map rfl

/-- The boxes put in sorted order, and the loop's starting values. -/
abbrev sortedOps : List (HloOp τ sig (Elt F)) :=
  [ StableHlo.nullary main_c (constantI S_ 32 0#32),
    StableHlo.unary main_c main_v4 (broadcastInDim S8x20000 ![] bcast_S_S8x20000 : (⟨S_, .i32⟩ : BufTy).Contents (Elt F) → (⟨S8x20000, .i32⟩ : BufTy).Contents (Elt F)),
    StableHlo.binary main_v3 main_v4 main_v5 (cmpi .slt : (⟨S8x20000, .i32⟩ : BufTy).Contents (Elt F) → (⟨S8x20000, .i32⟩ : BufTy).Contents (Elt F) → (⟨S8x20000, .i1⟩ : BufTy).Contents (Elt F)),
    StableHlo.nullary main_c_0 (constantI S_ 32 20000#32),
    StableHlo.unary main_c_0 main_v6 (broadcastInDim S8x20000 ![] bcast_S_S8x20000 : (⟨S_, .i32⟩ : BufTy).Contents (Elt F) → (⟨S8x20000, .i32⟩ : BufTy).Contents (Elt F)),
    StableHlo.binary main_v3 main_v6 main_v7 (addi : (⟨S8x20000, .i32⟩ : BufTy).Contents (Elt F) → (⟨S8x20000, .i32⟩ : BufTy).Contents (Elt F) → (⟨S8x20000, .i32⟩ : BufTy).Contents (Elt F)),
    StableHlo.ternary main_v5 main_v7 main_v3 main_v8 (select : (⟨S8x20000, .i1⟩ : BufTy).Contents (Elt F) → (⟨S8x20000, .i32⟩ : BufTy).Contents (Elt F) → (⟨S8x20000, .i32⟩ : BufTy).Contents (Elt F) → (⟨S8x20000, .i32⟩ : BufTy).Contents (Elt F)),
    StableHlo.unary main_v8 main_v9 (broadcastInDim S8x20000x1 ![0, 1] bcast_S8x20000_S8x20000x1_0_1 : (⟨S8x20000, .i32⟩ : BufTy).Contents (Elt F) → (⟨S8x20000x1, .i32⟩ : BufTy).Contents (Elt F)),
    StableHlo.binary main_arg1 main_v9 main_v10 ((fun x i => Host.gather gather_S8x20000x4_S8x20000x1_S8x20000x4_2_1_0_0_1_2_114 x i) : (⟨S8x20000x4, .f32⟩ : BufTy).Contents (Elt F) → (⟨S8x20000x1, .i32⟩ : BufTy).Contents (Elt F) → (⟨S8x20000x4, .f32⟩ : BufTy).Contents (Elt F)),
    StableHlo.nullary main_v11 (iotaInDim S20000 32 0),
    StableHlo.nullary main_c_1 (constantI S_ 1 0#1),
    StableHlo.unary main_c_1 main_v12 (broadcastInDim S20000 ![] bcast_S_S20000 : (⟨S_, .i1⟩ : BufTy).Contents (Elt F) → (⟨S20000, .i1⟩ : BufTy).Contents (Elt F)),
    StableHlo.unary main_v12 main_v13 (broadcastInDim S8x20000 ![1] bcast_S20000_S8x20000_1 : (⟨S20000, .i1⟩ : BufTy).Contents (Elt F) → (⟨S8x20000, .i1⟩ : BufTy).Contents (Elt F)),
    StableHlo.nullary main_c_2 (constantI S_ 32 0#32),
    StableHlo.unary main_c_2 main_v14 (broadcastInDim S300x8 ![] bcast_S_S300x8 : (⟨S_, .i32⟩ : BufTy).Contents (Elt F) → (⟨S300x8, .i32⟩ : BufTy).Contents (Elt F)),
    StableHlo.nullary main_c_3 (constantI S_ 1 0#1),
    StableHlo.unary main_c_3 main_v15 (broadcastInDim S300x8 ![] bcast_S_S300x8 : (⟨S_, .i1⟩ : BufTy).Contents (Elt F) → (⟨S300x8, .i1⟩ : BufTy).Contents (Elt F)),
    StableHlo.nullary main_c_4 (constantI S_ 32 0#32),
    StableHlo.unary main_v10 main_v16_0 id,
    StableHlo.unary main_v11 main_v16_1 id,
    StableHlo.unary main_c_4 main_v16_2 id,
    StableHlo.unary main_v13 main_v16_3 id,
    StableHlo.unary main_v14 main_v16_4 id,
    StableHlo.unary main_v15 main_v16_5 id ]
theorem sortedOps_sub : (sortedOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.nullary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
theorem sortedOps_fresh : (sortedOps : List (HloOp τ sig (Elt F))).Forall fun op => op.fresh = ∅ :=
  StableHlo.forall_fresh_of_map rfl
/-- What `sortedOps` writes. -/
abbrev sortedOps_W : List (Ref sig .tc) := [main_c, main_v4, main_v5, main_c_0, main_v6, main_v7, main_v8, main_v9, main_v10, main_v11, main_c_1, main_v12, main_v13, main_c_2, main_v14, main_c_3, main_v15, main_c_4, main_v16_0, main_v16_1, main_v16_2, main_v16_3, main_v16_4, main_v16_5]
theorem sortedOps_writes : (sortedOps : List (HloOp τ sig (Elt F))).Forall fun op => op.writes ⊆ (sortedOps_W.map (Proc.devRef (τ := τ) .tc)).toFinset :=
  StableHlo.forall_writes_sub_of_map rfl

/-- The boxes still available. -/
abbrev availOps : List (HloOp τ sig (Elt F)) :=
  [ StableHlo.unary main_v16_3 main_while0b_v28 (noti : (⟨S8x20000, .i1⟩ : BufTy).Contents (Elt F) → (⟨S8x20000, .i1⟩ : BufTy).Contents (Elt F)) ]
theorem availOps_sub : (availOps : List (HloOp τ sig (Elt F))).Forall fun op => op.bufs ⊆ StableHlo.tcRefs τ sig :=
  StableHlo.unary_bufs_sub ..
theorem availOps_fresh : (availOps : List (HloOp τ sig (Elt F))).Forall fun op => op.fresh = ∅ :=
  StableHlo.forall_fresh_of_map rfl
/-- What `availOps` writes. -/
abbrev availOps_W : List (Ref sig .tc) := [main_while0b_v28]
theorem availOps_writes : (availOps : List (HloOp τ sig (Elt F))).Forall fun op => op.writes ⊆ (availOps_W.map (Proc.devRef (τ := τ) .tc)).toFinset :=
  StableHlo.forall_writes_sub_of_map rfl

/-- The first available position. -/
abbrev argmaxOps : List (HloOp τ sig (Elt F)) :=
  [ StableHlo.TRef.nullary (.of main_while0b_call1_v0 : StableHlo.TRef sig ⟨S8x20000, .i32⟩) (iotaInDim S8x20000 32 1),
    StableHlo.TRef.nullary (.of main_while0b_call1_c : StableHlo.TRef sig ⟨S_, .i1⟩) (constantI S_ 1 0#1),
    StableHlo.TRef.nullary (.of main_while0b_call1_c_0 : StableHlo.TRef sig ⟨S_, .i32⟩) (constantI S_ 32 0#32),
    StableHlo.TRef.quaternary (.of main_while0b_v28 : StableHlo.TRef sig ⟨S8x20000, .i1⟩) (.of main_while0b_call1_v0 : StableHlo.TRef sig ⟨S8x20000, .i32⟩) (.of main_while0b_call1_c : StableHlo.TRef sig ⟨S_, .i1⟩) (.of main_while0b_call1_c_0 : StableHlo.TRef sig ⟨S_, .i32⟩) (.of main_while0b_call1_v1_0 : StableHlo.TRef sig ⟨S8, .i1⟩) (fun x y u v j => (Host.reduce2 reducer_argmax_i1_i32 x y u v reducesTo_S8x20000_S8_d1 h_S_ j).1),
    StableHlo.TRef.quaternary (.of main_while0b_v28 : StableHlo.TRef sig ⟨S8x20000, .i1⟩) (.of main_while0b_call1_v0 : StableHlo.TRef sig ⟨S8x20000, .i32⟩) (.of main_while0b_call1_c : StableHlo.TRef sig ⟨S_, .i1⟩) (.of main_while0b_call1_c_0 : StableHlo.TRef sig ⟨S_, .i32⟩) (.of main_while0b_v29 : StableHlo.TRef sig ⟨S8, .i32⟩) (fun x y u v j => (Host.reduce2 reducer_argmax_i1_i32 x y u v reducesTo_S8x20000_S8_d1 h_S_ j).2) ]
theorem argmaxOps_sub : (argmaxOps : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
theorem argmaxOps_fresh : (argmaxOps : List (HloOp τ sig (Elt F))).Forall fun op => op.fresh = ∅ :=
  StableHlo.forall_fresh_of_map rfl
/-- What `argmaxOps` writes. -/
abbrev argmaxOps_W : List (Ref sig .tc) := [main_while0b_call1_v0, main_while0b_call1_c, main_while0b_call1_c_0, main_while0b_call1_v1_0, main_while0b_v29]
theorem argmaxOps_writes : (argmaxOps : List (HloOp τ sig (Elt F))).Forall fun op => op.writes ⊆ (argmaxOps_W.map (Proc.devRef (τ := τ) .tc)).toFinset :=
  StableHlo.forall_writes_sub_of_map rfl

/-- Whether the chosen position is available. -/
abbrev takeOps : List (HloOp τ sig (Elt F)) :=
  [ StableHlo.TRef.unary (.of main_while0b_v29 : StableHlo.TRef sig ⟨S8, .i32⟩) (.of main_while0b_call2_v0 : StableHlo.TRef sig ⟨S8x1, .i32⟩) (broadcastInDim S8x1 ![0] bcast_S8_S8x1_0),
    StableHlo.TRef.binary (.of main_while0b_v28 : StableHlo.TRef sig ⟨S8x20000, .i1⟩) (.of main_while0b_call2_v0 : StableHlo.TRef sig ⟨S8x1, .i32⟩) (.of main_while0b_v30 : StableHlo.TRef sig ⟨S8, .i1⟩) (fun x i => Host.gather gather_S8x20000_S8x1_S8_n_1_0_0_1_1_11 x i) ]
theorem takeOps_sub : (takeOps : List (HloOp τ sig (Elt F))).Forall fun op => op.bufs ⊆ StableHlo.tcRefs τ sig :=
  ⟨StableHlo.unary_bufs_sub .., StableHlo.binary_bufs_sub ..⟩
theorem takeOps_fresh : (takeOps : List (HloOp τ sig (Elt F))).Forall fun op => op.fresh = ∅ :=
  StableHlo.forall_fresh_of_map rfl
/-- What `takeOps` writes. -/
abbrev takeOps_W : List (Ref sig .tc) := [main_while0b_call2_v0, main_while0b_v30]
theorem takeOps_writes : (takeOps : List (HloOp τ sig (Elt F))).Forall fun op => op.writes ⊆ (takeOps_W.map (Proc.devRef (τ := τ) .tc)).toFinset :=
  StableHlo.forall_writes_sub_of_map rfl

/-- The chosen box. -/
abbrev takeBoxOps : List (HloOp τ sig (Elt F)) :=
  [ StableHlo.TRef.unary (.of main_while0b_v29 : StableHlo.TRef sig ⟨S8, .i32⟩) (.of main_while0b_call3_v0 : StableHlo.TRef sig ⟨S8x1, .i32⟩) (broadcastInDim S8x1 ![0] bcast_S8_S8x1_0),
    StableHlo.TRef.binary (.of main_v16_0 : StableHlo.TRef sig ⟨S8x20000x4, .f32⟩) (.of main_while0b_call3_v0 : StableHlo.TRef sig ⟨S8x1, .i32⟩) (.of main_while0b_v31 : StableHlo.TRef sig ⟨S8x4, .f32⟩) (fun x i => Host.gather gather_S8x20000x4_S8x1_S8x4_1_1_0_0_1_1_114 x i) ]
theorem takeBoxOps_sub : (takeBoxOps : List (HloOp τ sig (Elt F))).Forall fun op => op.bufs ⊆ StableHlo.tcRefs τ sig :=
  ⟨StableHlo.unary_bufs_sub .., StableHlo.binary_bufs_sub ..⟩
theorem takeBoxOps_fresh : (takeBoxOps : List (HloOp τ sig (Elt F))).Forall fun op => op.fresh = ∅ :=
  StableHlo.forall_fresh_of_map rfl
/-- What `takeBoxOps` writes. -/
abbrev takeBoxOps_W : List (Ref sig .tc) := [main_while0b_call3_v0, main_while0b_v31]
theorem takeBoxOps_writes : (takeBoxOps : List (HloOp τ sig (Elt F))).Forall fun op => op.writes ⊆ (takeBoxOps_W.map (Proc.devRef (τ := τ) .tc)).toFinset :=
  StableHlo.forall_writes_sub_of_map rfl

/-- The intersections of the chosen box with every box. -/
abbrev interOps : List (HloOp τ sig (Elt F)) :=
  [ StableHlo.unary main_while0b_v31 main_while0b_v32 ((extractStridedSlice S8x1 ![0, 0] · slices_S8x4_S8x1_0_0) : (⟨S8x4, .f32⟩ : BufTy).Contents (Elt F) → (⟨S8x1, .f32⟩ : BufTy).Contents (Elt F)),
    StableHlo.reshape main_while0b_v32 main_while0b_v33 (rfl : (.f32 : EltTy) = .f32) shapeCasts_S8x1_S8,
    StableHlo.unary main_v16_0 main_while0b_v34 ((extractStridedSlice S8x20000x1 ![0, 0, 0] · slices_S8x20000x4_S8x20000x1_0_0_0) : (⟨S8x20000x4, .f32⟩ : BufTy).Contents (Elt F) → (⟨S8x20000x1, .f32⟩ : BufTy).Contents (Elt F)),
    StableHlo.reshape main_while0b_v34 main_while0b_v35 (rfl : (.f32 : EltTy) = .f32) shapeCasts_S8x20000x1_S8x20000,
    StableHlo.unary main_while0b_v33 main_while0b_v36 (broadcastInDim S8x1 ![0] bcast_S8_S8x1_0 : (⟨S8, .f32⟩ : BufTy).Contents (Elt F) → (⟨S8x1, .f32⟩ : BufTy).Contents (Elt F)),
    StableHlo.unary main_while0b_v36 main_while0b_v37 (broadcastInDim S8x20000 ![0, 1] bcast_S8x1_S8x20000_0_1 : (⟨S8x1, .f32⟩ : BufTy).Contents (Elt F) → (⟨S8x20000, .f32⟩ : BufTy).Contents (Elt F)),
    StableHlo.binary main_while0b_v37 main_while0b_v35 main_while0b_v38 (maximumf : (⟨S8x20000, .f32⟩ : BufTy).Contents (Elt F) → (⟨S8x20000, .f32⟩ : BufTy).Contents (Elt F) → (⟨S8x20000, .f32⟩ : BufTy).Contents (Elt F)),
    StableHlo.unary main_while0b_v31 main_while0b_v39 ((extractStridedSlice S8x1 ![0, 1] · slices_S8x4_S8x1_0_1) : (⟨S8x4, .f32⟩ : BufTy).Contents (Elt F) → (⟨S8x1, .f32⟩ : BufTy).Contents (Elt F)),
    StableHlo.reshape main_while0b_v39 main_while0b_v40 (rfl : (.f32 : EltTy) = .f32) shapeCasts_S8x1_S8,
    StableHlo.unary main_v16_0 main_while0b_v41 ((extractStridedSlice S8x20000x1 ![0, 0, 1] · slices_S8x20000x4_S8x20000x1_0_0_1) : (⟨S8x20000x4, .f32⟩ : BufTy).Contents (Elt F) → (⟨S8x20000x1, .f32⟩ : BufTy).Contents (Elt F)),
    StableHlo.reshape main_while0b_v41 main_while0b_v42 (rfl : (.f32 : EltTy) = .f32) shapeCasts_S8x20000x1_S8x20000,
    StableHlo.unary main_while0b_v40 main_while0b_v43 (broadcastInDim S8x1 ![0] bcast_S8_S8x1_0 : (⟨S8, .f32⟩ : BufTy).Contents (Elt F) → (⟨S8x1, .f32⟩ : BufTy).Contents (Elt F)),
    StableHlo.unary main_while0b_v43 main_while0b_v44 (broadcastInDim S8x20000 ![0, 1] bcast_S8x1_S8x20000_0_1 : (⟨S8x1, .f32⟩ : BufTy).Contents (Elt F) → (⟨S8x20000, .f32⟩ : BufTy).Contents (Elt F)),
    StableHlo.binary main_while0b_v44 main_while0b_v42 main_while0b_v45 (maximumf : (⟨S8x20000, .f32⟩ : BufTy).Contents (Elt F) → (⟨S8x20000, .f32⟩ : BufTy).Contents (Elt F) → (⟨S8x20000, .f32⟩ : BufTy).Contents (Elt F)),
    StableHlo.unary main_while0b_v31 main_while0b_v46 ((extractStridedSlice S8x1 ![0, 2] · slices_S8x4_S8x1_0_2) : (⟨S8x4, .f32⟩ : BufTy).Contents (Elt F) → (⟨S8x1, .f32⟩ : BufTy).Contents (Elt F)),
    StableHlo.reshape main_while0b_v46 main_while0b_v47 (rfl : (.f32 : EltTy) = .f32) shapeCasts_S8x1_S8,
    StableHlo.unary main_v16_0 main_while0b_v48 ((extractStridedSlice S8x20000x1 ![0, 0, 2] · slices_S8x20000x4_S8x20000x1_0_0_2) : (⟨S8x20000x4, .f32⟩ : BufTy).Contents (Elt F) → (⟨S8x20000x1, .f32⟩ : BufTy).Contents (Elt F)),
    StableHlo.reshape main_while0b_v48 main_while0b_v49 (rfl : (.f32 : EltTy) = .f32) shapeCasts_S8x20000x1_S8x20000,
    StableHlo.unary main_while0b_v47 main_while0b_v50 (broadcastInDim S8x1 ![0] bcast_S8_S8x1_0 : (⟨S8, .f32⟩ : BufTy).Contents (Elt F) → (⟨S8x1, .f32⟩ : BufTy).Contents (Elt F)),
    StableHlo.unary main_while0b_v50 main_while0b_v51 (broadcastInDim S8x20000 ![0, 1] bcast_S8x1_S8x20000_0_1 : (⟨S8x1, .f32⟩ : BufTy).Contents (Elt F) → (⟨S8x20000, .f32⟩ : BufTy).Contents (Elt F)),
    StableHlo.binary main_while0b_v51 main_while0b_v49 main_while0b_v52 (minimumf : (⟨S8x20000, .f32⟩ : BufTy).Contents (Elt F) → (⟨S8x20000, .f32⟩ : BufTy).Contents (Elt F) → (⟨S8x20000, .f32⟩ : BufTy).Contents (Elt F)),
    StableHlo.unary main_while0b_v31 main_while0b_v53 ((extractStridedSlice S8x1 ![0, 3] · slices_S8x4_S8x1_0_3) : (⟨S8x4, .f32⟩ : BufTy).Contents (Elt F) → (⟨S8x1, .f32⟩ : BufTy).Contents (Elt F)),
    StableHlo.reshape main_while0b_v53 main_while0b_v54 (rfl : (.f32 : EltTy) = .f32) shapeCasts_S8x1_S8,
    StableHlo.unary main_v16_0 main_while0b_v55 ((extractStridedSlice S8x20000x1 ![0, 0, 3] · slices_S8x20000x4_S8x20000x1_0_0_3) : (⟨S8x20000x4, .f32⟩ : BufTy).Contents (Elt F) → (⟨S8x20000x1, .f32⟩ : BufTy).Contents (Elt F)),
    StableHlo.reshape main_while0b_v55 main_while0b_v56 (rfl : (.f32 : EltTy) = .f32) shapeCasts_S8x20000x1_S8x20000,
    StableHlo.unary main_while0b_v54 main_while0b_v57 (broadcastInDim S8x1 ![0] bcast_S8_S8x1_0 : (⟨S8, .f32⟩ : BufTy).Contents (Elt F) → (⟨S8x1, .f32⟩ : BufTy).Contents (Elt F)),
    StableHlo.unary main_while0b_v57 main_while0b_v58 (broadcastInDim S8x20000 ![0, 1] bcast_S8x1_S8x20000_0_1 : (⟨S8x1, .f32⟩ : BufTy).Contents (Elt F) → (⟨S8x20000, .f32⟩ : BufTy).Contents (Elt F)),
    StableHlo.binary main_while0b_v58 main_while0b_v56 main_while0b_v59 (minimumf : (⟨S8x20000, .f32⟩ : BufTy).Contents (Elt F) → (⟨S8x20000, .f32⟩ : BufTy).Contents (Elt F) → (⟨S8x20000, .f32⟩ : BufTy).Contents (Elt F)),
    StableHlo.binary main_while0b_v52 main_while0b_v38 main_while0b_v60 (subf : (⟨S8x20000, .f32⟩ : BufTy).Contents (Elt F) → (⟨S8x20000, .f32⟩ : BufTy).Contents (Elt F) → (⟨S8x20000, .f32⟩ : BufTy).Contents (Elt F)),
    StableHlo.nullary main_while0b_cst_12 (constant S_ .f32 0x00000000#32),
    StableHlo.unary main_while0b_cst_12 main_while0b_v61 (broadcastInDim S8x20000 ![] bcast_S_S8x20000 : (⟨S_, .f32⟩ : BufTy).Contents (Elt F) → (⟨S8x20000, .f32⟩ : BufTy).Contents (Elt F)),
    StableHlo.binary main_while0b_v60 main_while0b_v61 main_while0b_v62 (maximumf : (⟨S8x20000, .f32⟩ : BufTy).Contents (Elt F) → (⟨S8x20000, .f32⟩ : BufTy).Contents (Elt F) → (⟨S8x20000, .f32⟩ : BufTy).Contents (Elt F)),
    StableHlo.binary main_while0b_v59 main_while0b_v45 main_while0b_v63 (subf : (⟨S8x20000, .f32⟩ : BufTy).Contents (Elt F) → (⟨S8x20000, .f32⟩ : BufTy).Contents (Elt F) → (⟨S8x20000, .f32⟩ : BufTy).Contents (Elt F)),
    StableHlo.nullary main_while0b_cst_13 (constant S_ .f32 0x00000000#32),
    StableHlo.unary main_while0b_cst_13 main_while0b_v64 (broadcastInDim S8x20000 ![] bcast_S_S8x20000 : (⟨S_, .f32⟩ : BufTy).Contents (Elt F) → (⟨S8x20000, .f32⟩ : BufTy).Contents (Elt F)),
    StableHlo.binary main_while0b_v63 main_while0b_v64 main_while0b_v65 (maximumf : (⟨S8x20000, .f32⟩ : BufTy).Contents (Elt F) → (⟨S8x20000, .f32⟩ : BufTy).Contents (Elt F) → (⟨S8x20000, .f32⟩ : BufTy).Contents (Elt F)),
    StableHlo.binary main_while0b_v62 main_while0b_v65 main_while0b_v66 (mulf : (⟨S8x20000, .f32⟩ : BufTy).Contents (Elt F) → (⟨S8x20000, .f32⟩ : BufTy).Contents (Elt F) → (⟨S8x20000, .f32⟩ : BufTy).Contents (Elt F)) ]
theorem interOps_sub : (interOps : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub ..⟩
theorem interOps_fresh : (interOps : List (HloOp τ sig (Elt F))).Forall fun op => op.fresh = ∅ :=
  StableHlo.forall_fresh_of_map rfl
/-- What `interOps` writes. -/
abbrev interOps_W : List (Ref sig .tc) := [main_while0b_v32, main_while0b_v33, main_while0b_v34, main_while0b_v35, main_while0b_v36, main_while0b_v37, main_while0b_v38, main_while0b_v39, main_while0b_v40, main_while0b_v41, main_while0b_v42, main_while0b_v43, main_while0b_v44, main_while0b_v45, main_while0b_v46, main_while0b_v47, main_while0b_v48, main_while0b_v49, main_while0b_v50, main_while0b_v51, main_while0b_v52, main_while0b_v53, main_while0b_v54, main_while0b_v55, main_while0b_v56, main_while0b_v57, main_while0b_v58, main_while0b_v59, main_while0b_v60, main_while0b_cst_12, main_while0b_v61, main_while0b_v62, main_while0b_v63, main_while0b_cst_13, main_while0b_v64, main_while0b_v65, main_while0b_v66]
theorem interOps_writes : (interOps : List (HloOp τ sig (Elt F))).Forall fun op => op.writes ⊆ (interOps_W.map (Proc.devRef (τ := τ) .tc)).toFinset :=
  StableHlo.forall_writes_sub_of_map rfl

set_option maxHeartbeats 40000000 in
/-- The unions and the quotients. -/
abbrev iouOps : List (HloOp τ sig (Elt F)) :=
  [ StableHlo.unary main_while0b_v31 main_while0b_v67 ((extractStridedSlice S8x1 ![0, 2] · slices_S8x4_S8x1_0_2) : (⟨S8x4, .f32⟩ : BufTy).Contents (Elt F) → (⟨S8x1, .f32⟩ : BufTy).Contents (Elt F)),
    StableHlo.reshape main_while0b_v67 main_while0b_v68 (rfl : (.f32 : EltTy) = .f32) shapeCasts_S8x1_S8,
    StableHlo.unary main_while0b_v31 main_while0b_v69 ((extractStridedSlice S8x1 ![0, 0] · slices_S8x4_S8x1_0_0) : (⟨S8x4, .f32⟩ : BufTy).Contents (Elt F) → (⟨S8x1, .f32⟩ : BufTy).Contents (Elt F)),
    StableHlo.reshape main_while0b_v69 main_while0b_v70 (rfl : (.f32 : EltTy) = .f32) shapeCasts_S8x1_S8,
    StableHlo.binary main_while0b_v68 main_while0b_v70 main_while0b_v71 (subf : (⟨S8, .f32⟩ : BufTy).Contents (Elt F) → (⟨S8, .f32⟩ : BufTy).Contents (Elt F) → (⟨S8, .f32⟩ : BufTy).Contents (Elt F)),
    StableHlo.nullary main_while0b_cst_14 (constant S_ .f32 0x00000000#32),
    StableHlo.unary main_while0b_cst_14 main_while0b_v72 (broadcastInDim S8 ![] bcast_S_S8 : (⟨S_, .f32⟩ : BufTy).Contents (Elt F) → (⟨S8, .f32⟩ : BufTy).Contents (Elt F)),
    StableHlo.binary main_while0b_v71 main_while0b_v72 main_while0b_v73 (maximumf : (⟨S8, .f32⟩ : BufTy).Contents (Elt F) → (⟨S8, .f32⟩ : BufTy).Contents (Elt F) → (⟨S8, .f32⟩ : BufTy).Contents (Elt F)),
    StableHlo.unary main_while0b_v31 main_while0b_v74 ((extractStridedSlice S8x1 ![0, 3] · slices_S8x4_S8x1_0_3) : (⟨S8x4, .f32⟩ : BufTy).Contents (Elt F) → (⟨S8x1, .f32⟩ : BufTy).Contents (Elt F)),
    StableHlo.reshape main_while0b_v74 main_while0b_v75 (rfl : (.f32 : EltTy) = .f32) shapeCasts_S8x1_S8,
    StableHlo.unary main_while0b_v31 main_while0b_v76 ((extractStridedSlice S8x1 ![0, 1] · slices_S8x4_S8x1_0_1) : (⟨S8x4, .f32⟩ : BufTy).Contents (Elt F) → (⟨S8x1, .f32⟩ : BufTy).Contents (Elt F)),
    StableHlo.reshape main_while0b_v76 main_while0b_v77 (rfl : (.f32 : EltTy) = .f32) shapeCasts_S8x1_S8,
    StableHlo.binary main_while0b_v75 main_while0b_v77 main_while0b_v78 (subf : (⟨S8, .f32⟩ : BufTy).Contents (Elt F) → (⟨S8, .f32⟩ : BufTy).Contents (Elt F) → (⟨S8, .f32⟩ : BufTy).Contents (Elt F)),
    StableHlo.nullary main_while0b_cst_15 (constant S_ .f32 0x00000000#32),
    StableHlo.unary main_while0b_cst_15 main_while0b_v79 (broadcastInDim S8 ![] bcast_S_S8 : (⟨S_, .f32⟩ : BufTy).Contents (Elt F) → (⟨S8, .f32⟩ : BufTy).Contents (Elt F)),
    StableHlo.binary main_while0b_v78 main_while0b_v79 main_while0b_v80 (maximumf : (⟨S8, .f32⟩ : BufTy).Contents (Elt F) → (⟨S8, .f32⟩ : BufTy).Contents (Elt F) → (⟨S8, .f32⟩ : BufTy).Contents (Elt F)),
    StableHlo.binary main_while0b_v73 main_while0b_v80 main_while0b_v81 (mulf : (⟨S8, .f32⟩ : BufTy).Contents (Elt F) → (⟨S8, .f32⟩ : BufTy).Contents (Elt F) → (⟨S8, .f32⟩ : BufTy).Contents (Elt F)),
    StableHlo.unary main_v16_0 main_while0b_v82 ((extractStridedSlice S8x20000x1 ![0, 0, 2] · slices_S8x20000x4_S8x20000x1_0_0_2) : (⟨S8x20000x4, .f32⟩ : BufTy).Contents (Elt F) → (⟨S8x20000x1, .f32⟩ : BufTy).Contents (Elt F)),
    StableHlo.reshape main_while0b_v82 main_while0b_v83 (rfl : (.f32 : EltTy) = .f32) shapeCasts_S8x20000x1_S8x20000,
    StableHlo.unary main_v16_0 main_while0b_v84 ((extractStridedSlice S8x20000x1 ![0, 0, 0] · slices_S8x20000x4_S8x20000x1_0_0_0) : (⟨S8x20000x4, .f32⟩ : BufTy).Contents (Elt F) → (⟨S8x20000x1, .f32⟩ : BufTy).Contents (Elt F)),
    StableHlo.reshape main_while0b_v84 main_while0b_v85 (rfl : (.f32 : EltTy) = .f32) shapeCasts_S8x20000x1_S8x20000,
    StableHlo.binary main_while0b_v83 main_while0b_v85 main_while0b_v86 (subf : (⟨S8x20000, .f32⟩ : BufTy).Contents (Elt F) → (⟨S8x20000, .f32⟩ : BufTy).Contents (Elt F) → (⟨S8x20000, .f32⟩ : BufTy).Contents (Elt F)),
    StableHlo.nullary main_while0b_cst_16 (constant S_ .f32 0x00000000#32),
    StableHlo.unary main_while0b_cst_16 main_while0b_v87 (broadcastInDim S8x20000 ![] bcast_S_S8x20000 : (⟨S_, .f32⟩ : BufTy).Contents (Elt F) → (⟨S8x20000, .f32⟩ : BufTy).Contents (Elt F)),
    StableHlo.binary main_while0b_v86 main_while0b_v87 main_while0b_v88 (maximumf : (⟨S8x20000, .f32⟩ : BufTy).Contents (Elt F) → (⟨S8x20000, .f32⟩ : BufTy).Contents (Elt F) → (⟨S8x20000, .f32⟩ : BufTy).Contents (Elt F)),
    StableHlo.unary main_v16_0 main_while0b_v89 ((extractStridedSlice S8x20000x1 ![0, 0, 3] · slices_S8x20000x4_S8x20000x1_0_0_3) : (⟨S8x20000x4, .f32⟩ : BufTy).Contents (Elt F) → (⟨S8x20000x1, .f32⟩ : BufTy).Contents (Elt F)),
    StableHlo.reshape main_while0b_v89 main_while0b_v90 (rfl : (.f32 : EltTy) = .f32) shapeCasts_S8x20000x1_S8x20000,
    StableHlo.unary main_v16_0 main_while0b_v91 ((extractStridedSlice S8x20000x1 ![0, 0, 1] · slices_S8x20000x4_S8x20000x1_0_0_1) : (⟨S8x20000x4, .f32⟩ : BufTy).Contents (Elt F) → (⟨S8x20000x1, .f32⟩ : BufTy).Contents (Elt F)),
    StableHlo.reshape main_while0b_v91 main_while0b_v92 (rfl : (.f32 : EltTy) = .f32) shapeCasts_S8x20000x1_S8x20000,
    StableHlo.binary main_while0b_v90 main_while0b_v92 main_while0b_v93 (subf : (⟨S8x20000, .f32⟩ : BufTy).Contents (Elt F) → (⟨S8x20000, .f32⟩ : BufTy).Contents (Elt F) → (⟨S8x20000, .f32⟩ : BufTy).Contents (Elt F)),
    StableHlo.nullary main_while0b_cst_17 (constant S_ .f32 0x00000000#32),
    StableHlo.unary main_while0b_cst_17 main_while0b_v94 (broadcastInDim S8x20000 ![] bcast_S_S8x20000 : (⟨S_, .f32⟩ : BufTy).Contents (Elt F) → (⟨S8x20000, .f32⟩ : BufTy).Contents (Elt F)),
    StableHlo.binary main_while0b_v93 main_while0b_v94 main_while0b_v95 (maximumf : (⟨S8x20000, .f32⟩ : BufTy).Contents (Elt F) → (⟨S8x20000, .f32⟩ : BufTy).Contents (Elt F) → (⟨S8x20000, .f32⟩ : BufTy).Contents (Elt F)),
    StableHlo.binary main_while0b_v88 main_while0b_v95 main_while0b_v96 (mulf : (⟨S8x20000, .f32⟩ : BufTy).Contents (Elt F) → (⟨S8x20000, .f32⟩ : BufTy).Contents (Elt F) → (⟨S8x20000, .f32⟩ : BufTy).Contents (Elt F)),
    StableHlo.unary main_while0b_v81 main_while0b_v97 (broadcastInDim S8x1 ![0] bcast_S8_S8x1_0 : (⟨S8, .f32⟩ : BufTy).Contents (Elt F) → (⟨S8x1, .f32⟩ : BufTy).Contents (Elt F)),
    StableHlo.unary main_while0b_v97 main_while0b_v98 (broadcastInDim S8x20000 ![0, 1] bcast_S8x1_S8x20000_0_1 : (⟨S8x1, .f32⟩ : BufTy).Contents (Elt F) → (⟨S8x20000, .f32⟩ : BufTy).Contents (Elt F)),
    StableHlo.binary main_while0b_v98 main_while0b_v96 main_while0b_v99 (addf : (⟨S8x20000, .f32⟩ : BufTy).Contents (Elt F) → (⟨S8x20000, .f32⟩ : BufTy).Contents (Elt F) → (⟨S8x20000, .f32⟩ : BufTy).Contents (Elt F)),
    StableHlo.binary main_while0b_v99 main_while0b_v66 main_while0b_v100 (subf : (⟨S8x20000, .f32⟩ : BufTy).Contents (Elt F) → (⟨S8x20000, .f32⟩ : BufTy).Contents (Elt F) → (⟨S8x20000, .f32⟩ : BufTy).Contents (Elt F)),
    StableHlo.nullary main_while0b_cst_18 (constant S_ .f32 0x00000000#32),
    StableHlo.unary main_while0b_cst_18 main_while0b_v101 (broadcastInDim S8x20000 ![] bcast_S_S8x20000 : (⟨S_, .f32⟩ : BufTy).Contents (Elt F) → (⟨S8x20000, .f32⟩ : BufTy).Contents (Elt F)),
    StableHlo.binary main_while0b_v100 main_while0b_v101 main_while0b_v102 (cmpf .ogt : (⟨S8x20000, .f32⟩ : BufTy).Contents (Elt F) → (⟨S8x20000, .f32⟩ : BufTy).Contents (Elt F) → (⟨S8x20000, .i1⟩ : BufTy).Contents (Elt F)),
    StableHlo.binary main_while0b_v66 main_while0b_v100 main_while0b_v103 (Host.divf : (⟨S8x20000, .f32⟩ : BufTy).Contents (Elt F) → (⟨S8x20000, .f32⟩ : BufTy).Contents (Elt F) → (⟨S8x20000, .f32⟩ : BufTy).Contents (Elt F)),
    StableHlo.nullary main_while0b_cst_19 (constant S_ .f32 0x00000000#32) ]
theorem iouOps_sub : (iouOps : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub ..⟩
theorem iouOps_fresh : (iouOps : List (HloOp τ sig (Elt F))).Forall fun op => op.fresh = ∅ :=
  StableHlo.forall_fresh_of_map rfl
/-- What `iouOps` writes. -/
abbrev iouOps_W : List (Ref sig .tc) := [main_while0b_v67, main_while0b_v68, main_while0b_v69, main_while0b_v70, main_while0b_v71, main_while0b_cst_14, main_while0b_v72, main_while0b_v73, main_while0b_v74, main_while0b_v75, main_while0b_v76, main_while0b_v77, main_while0b_v78, main_while0b_cst_15, main_while0b_v79, main_while0b_v80, main_while0b_v81, main_while0b_v82, main_while0b_v83, main_while0b_v84, main_while0b_v85, main_while0b_v86, main_while0b_cst_16, main_while0b_v87, main_while0b_v88, main_while0b_v89, main_while0b_v90, main_while0b_v91, main_while0b_v92, main_while0b_v93, main_while0b_cst_17, main_while0b_v94, main_while0b_v95, main_while0b_v96, main_while0b_v97, main_while0b_v98, main_while0b_v99, main_while0b_v100, main_while0b_cst_18, main_while0b_v101, main_while0b_v102, main_while0b_v103, main_while0b_cst_19]
theorem iouOps_writes : (iouOps : List (HloOp τ sig (Elt F))).Forall fun op => op.writes ⊆ (iouOps_W.map (Proc.devRef (τ := τ) .tc)).toFinset :=
  StableHlo.forall_writes_sub_of_map rfl

/-- The quotient, or zero where the union is not positive. -/
abbrev whereOps : List (HloOp τ sig (Elt F)) :=
  [ StableHlo.TRef.unary (.of main_while0b_cst_19 : StableHlo.TRef sig ⟨S_, .f32⟩) (.of main_while0b_call4_v0 : StableHlo.TRef sig ⟨S_, .f32⟩) id,
    StableHlo.TRef.unary (.of main_while0b_call4_v0 : StableHlo.TRef sig ⟨S_, .f32⟩) (.of main_while0b_call4_v1 : StableHlo.TRef sig ⟨S20000, .f32⟩) (broadcastInDim S20000 ![] bcast_S_S20000),
    StableHlo.TRef.unary (.of main_while0b_call4_v1 : StableHlo.TRef sig ⟨S20000, .f32⟩) (.of main_while0b_call4_v2 : StableHlo.TRef sig ⟨S8x20000, .f32⟩) (broadcastInDim S8x20000 ![1] bcast_S20000_S8x20000_1),
    StableHlo.TRef.ternary (.of main_while0b_v102 : StableHlo.TRef sig ⟨S8x20000, .i1⟩) (.of main_while0b_v103 : StableHlo.TRef sig ⟨S8x20000, .f32⟩) (.of main_while0b_call4_v2 : StableHlo.TRef sig ⟨S8x20000, .f32⟩) (.of main_while0b_v104 : StableHlo.TRef sig ⟨S8x20000, .f32⟩) select ]
theorem whereOps_sub : (whereOps : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem whereOps_fresh : (whereOps : List (HloOp τ sig (Elt F))).Forall fun op => op.fresh = ∅ :=
  StableHlo.forall_fresh_of_map rfl
/-- What `whereOps` writes. -/
abbrev whereOps_W : List (Ref sig .tc) := [main_while0b_call4_v0, main_while0b_call4_v1, main_while0b_call4_v2, main_while0b_v104]
theorem whereOps_writes : (whereOps : List (HloOp τ sig (Elt F))).Forall fun op => op.writes ⊆ (whereOps_W.map (Proc.devRef (τ := τ) .tc)).toFinset :=
  StableHlo.forall_writes_sub_of_map rfl

/-- The positions this trip suppresses. -/
abbrev hitOps : List (HloOp τ sig (Elt F)) :=
  [ StableHlo.nullary main_while0b_cst_20 (constant S_ .f32 0x3F000000#32),
    StableHlo.unary main_while0b_cst_20 main_while0b_v105 (broadcastInDim S8x20000 ![] bcast_S_S8x20000 : (⟨S_, .f32⟩ : BufTy).Contents (Elt F) → (⟨S8x20000, .f32⟩ : BufTy).Contents (Elt F)),
    StableHlo.binary main_while0b_v104 main_while0b_v105 main_while0b_v106 (cmpf .ogt : (⟨S8x20000, .f32⟩ : BufTy).Contents (Elt F) → (⟨S8x20000, .f32⟩ : BufTy).Contents (Elt F) → (⟨S8x20000, .i1⟩ : BufTy).Contents (Elt F)),
    StableHlo.binary main_v16_3 main_while0b_v106 main_while0b_v107 (ori : (⟨S8x20000, .i1⟩ : BufTy).Contents (Elt F) → (⟨S8x20000, .i1⟩ : BufTy).Contents (Elt F) → (⟨S8x20000, .i1⟩ : BufTy).Contents (Elt F)),
    StableHlo.unary main_v16_1 main_while0b_v108 (broadcastInDim S1x20000 ![1] bcast_S20000_S1x20000_1 : (⟨S20000, .i32⟩ : BufTy).Contents (Elt F) → (⟨S1x20000, .i32⟩ : BufTy).Contents (Elt F)),
    StableHlo.unary main_while0b_v29 main_while0b_v109 (broadcastInDim S8x1 ![0] bcast_S8_S8x1_0 : (⟨S8, .i32⟩ : BufTy).Contents (Elt F) → (⟨S8x1, .i32⟩ : BufTy).Contents (Elt F)),
    StableHlo.unary main_while0b_v108 main_while0b_v110 (broadcastInDim S8x20000 ![0, 1] bcast_S1x20000_S8x20000_0_1 : (⟨S1x20000, .i32⟩ : BufTy).Contents (Elt F) → (⟨S8x20000, .i32⟩ : BufTy).Contents (Elt F)),
    StableHlo.unary main_while0b_v109 main_while0b_v111 (broadcastInDim S8x20000 ![0, 1] bcast_S8x1_S8x20000_0_1 : (⟨S8x1, .i32⟩ : BufTy).Contents (Elt F) → (⟨S8x20000, .i32⟩ : BufTy).Contents (Elt F)),
    StableHlo.binary main_while0b_v110 main_while0b_v111 main_while0b_v112 (cmpi .eq : (⟨S8x20000, .i32⟩ : BufTy).Contents (Elt F) → (⟨S8x20000, .i32⟩ : BufTy).Contents (Elt F) → (⟨S8x20000, .i1⟩ : BufTy).Contents (Elt F)),
    StableHlo.binary main_while0b_v107 main_while0b_v112 main_while0b_v113 (ori : (⟨S8x20000, .i1⟩ : BufTy).Contents (Elt F) → (⟨S8x20000, .i1⟩ : BufTy).Contents (Elt F) → (⟨S8x20000, .i1⟩ : BufTy).Contents (Elt F)) ]
theorem hitOps_sub : (hitOps : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub ..⟩
theorem hitOps_fresh : (hitOps : List (HloOp τ sig (Elt F))).Forall fun op => op.fresh = ∅ :=
  StableHlo.forall_fresh_of_map rfl
/-- What `hitOps` writes. -/
abbrev hitOps_W : List (Ref sig .tc) := [main_while0b_cst_20, main_while0b_v105, main_while0b_v106, main_while0b_v107, main_while0b_v108, main_while0b_v109, main_while0b_v110, main_while0b_v111, main_while0b_v112, main_while0b_v113]
theorem hitOps_writes : (hitOps : List (HloOp τ sig (Elt F))).Forall fun op => op.writes ⊆ (hitOps_W.map (Proc.devRef (τ := τ) .tc)).toFinset :=
  StableHlo.forall_writes_sub_of_map rfl

/-- The suppressed positions, if the chosen one was available. -/
abbrev keepOps : List (HloOp τ sig (Elt F)) :=
  [ StableHlo.TRef.unary (.of main_while0b_v30 : StableHlo.TRef sig ⟨S8, .i1⟩) (.of main_while0b_call5_v0 : StableHlo.TRef sig ⟨S8x20000, .i1⟩) (broadcastInDim S8x20000 ![0] bcast_S8_S8x20000_0),
    StableHlo.TRef.ternary (.of main_while0b_call5_v0 : StableHlo.TRef sig ⟨S8x20000, .i1⟩) (.of main_while0b_v113 : StableHlo.TRef sig ⟨S8x20000, .i1⟩) (.of main_v16_3 : StableHlo.TRef sig ⟨S8x20000, .i1⟩) (.of main_while0b_v114 : StableHlo.TRef sig ⟨S8x20000, .i1⟩) select ]
theorem keepOps_sub : (keepOps : List (HloOp τ sig (Elt F))).Forall fun op => op.bufs ⊆ StableHlo.tcRefs τ sig :=
  ⟨StableHlo.unary_bufs_sub .., StableHlo.ternary_bufs_sub ..⟩
theorem keepOps_fresh : (keepOps : List (HloOp τ sig (Elt F))).Forall fun op => op.fresh = ∅ :=
  StableHlo.forall_fresh_of_map rfl
/-- What `keepOps` writes. -/
abbrev keepOps_W : List (Ref sig .tc) := [main_while0b_call5_v0, main_while0b_v114]
theorem keepOps_writes : (keepOps : List (HloOp τ sig (Elt F))).Forall fun op => op.writes ⊆ (keepOps_W.map (Proc.devRef (τ := τ) .tc)).toFinset :=
  StableHlo.forall_writes_sub_of_map rfl

/-- The chosen position written to its slot. -/
abbrev slotOps : List (HloOp τ sig (Elt F)) :=
  [ StableHlo.TRef.unary (.of main_while0b_v29 : StableHlo.TRef sig ⟨S8, .i32⟩) (.of main_while0b_call6_v0 : StableHlo.TRef sig ⟨S1x8, .i32⟩) (broadcastInDim S1x8 ![1] bcast_S8_S1x8_1),
    StableHlo.TRef.nullary (.of main_while0b_call6_c : StableHlo.TRef sig ⟨S_, .i32⟩) (constantI S_ 32 0#32),
    StableHlo.TRef.binaryIndexed (.of main_v16_4 : StableHlo.TRef sig ⟨S300x8, .i32⟩) (.of main_while0b_call6_v0 : StableHlo.TRef sig ⟨S1x8, .i32⟩) ![(.of main_v16_2 : StableHlo.TRef sig ⟨S_, .i32⟩), (.of main_while0b_call6_c : StableHlo.TRef sig ⟨S_, .i32⟩)] (.of main_while0b_v115 : StableHlo.TRef sig ⟨S300x8, .i32⟩) (fun x u i => Host.dynamicUpdateSlice x u (fun k => (i k (Shape.Idx.first h_S_)).toInt) updateFits_S300x8_S1x8) ]
theorem slotOps_sub : (slotOps : List (HloOp τ sig (Elt F))).Forall fun op => op.bufs ⊆ StableHlo.tcRefs τ sig :=
  ⟨StableHlo.unary_bufs_sub .., StableHlo.nullary_bufs_sub .., StableHlo.binaryIndexed_bufs_sub ..⟩
theorem slotOps_fresh : (slotOps : List (HloOp τ sig (Elt F))).Forall fun op => op.fresh = ∅ :=
  StableHlo.forall_fresh_of_map rfl
/-- What `slotOps` writes. -/
abbrev slotOps_W : List (Ref sig .tc) := [main_while0b_call6_v0, main_while0b_call6_c, main_while0b_v115]
theorem slotOps_writes : (slotOps : List (HloOp τ sig (Elt F))).Forall fun op => op.writes ⊆ (slotOps_W.map (Proc.devRef (τ := τ) .tc)).toFinset :=
  StableHlo.forall_writes_sub_of_map rfl

/-- The chosen position's availability written to its slot. -/
abbrev flagOps : List (HloOp τ sig (Elt F)) :=
  [ StableHlo.TRef.unary (.of main_while0b_v30 : StableHlo.TRef sig ⟨S8, .i1⟩) (.of main_while0b_call7_v0 : StableHlo.TRef sig ⟨S1x8, .i1⟩) (broadcastInDim S1x8 ![1] bcast_S8_S1x8_1),
    StableHlo.TRef.nullary (.of main_while0b_call7_c : StableHlo.TRef sig ⟨S_, .i32⟩) (constantI S_ 32 0#32),
    StableHlo.TRef.binaryIndexed (.of main_v16_5 : StableHlo.TRef sig ⟨S300x8, .i1⟩) (.of main_while0b_call7_v0 : StableHlo.TRef sig ⟨S1x8, .i1⟩) ![(.of main_v16_2 : StableHlo.TRef sig ⟨S_, .i32⟩), (.of main_while0b_call7_c : StableHlo.TRef sig ⟨S_, .i32⟩)] (.of main_while0b_v116 : StableHlo.TRef sig ⟨S300x8, .i1⟩) (fun x u i => Host.dynamicUpdateSlice x u (fun k => (i k (Shape.Idx.first h_S_)).toInt) updateFits_S300x8_S1x8) ]
theorem flagOps_sub : (flagOps : List (HloOp τ sig (Elt F))).Forall fun op => op.bufs ⊆ StableHlo.tcRefs τ sig :=
  ⟨StableHlo.unary_bufs_sub .., StableHlo.nullary_bufs_sub .., StableHlo.binaryIndexed_bufs_sub ..⟩
theorem flagOps_fresh : (flagOps : List (HloOp τ sig (Elt F))).Forall fun op => op.fresh = ∅ :=
  StableHlo.forall_fresh_of_map rfl
/-- What `flagOps` writes. -/
abbrev flagOps_W : List (Ref sig .tc) := [main_while0b_call7_v0, main_while0b_call7_c, main_while0b_v116]
theorem flagOps_writes : (flagOps : List (HloOp τ sig (Elt F))).Forall fun op => op.writes ⊆ (flagOps_W.map (Proc.devRef (τ := τ) .tc)).toFinset :=
  StableHlo.forall_writes_sub_of_map rfl

/-- The carried values of the next trip. -/
abbrev nextOps : List (HloOp τ sig (Elt F)) :=
  [ StableHlo.nullary main_while0b_c_21 (constantI S_ 32 1#32),
    StableHlo.binary main_v16_2 main_while0b_c_21 main_while0b_v117 (addi : (⟨S_, .i32⟩ : BufTy).Contents (Elt F) → (⟨S_, .i32⟩ : BufTy).Contents (Elt F) → (⟨S_, .i32⟩ : BufTy).Contents (Elt F)),
    StableHlo.unary main_while0b_v117 main_v16_2 id,
    StableHlo.unary main_while0b_v114 main_v16_3 id,
    StableHlo.unary main_while0b_v115 main_v16_4 id,
    StableHlo.unary main_while0b_v116 main_v16_5 id ]
theorem nextOps_sub : (nextOps : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem nextOps_fresh : (nextOps : List (HloOp τ sig (Elt F))).Forall fun op => op.fresh = ∅ :=
  StableHlo.forall_fresh_of_map rfl
/-- What `nextOps` writes. -/
abbrev nextOps_W : List (Ref sig .tc) := [main_while0b_c_21, main_while0b_v117, main_v16_2, main_v16_3, main_v16_4, main_v16_5]
theorem nextOps_writes : (nextOps : List (HloOp τ sig (Elt F))).Forall fun op => op.writes ⊆ (nextOps_W.map (Proc.devRef (τ := τ) .tc)).toFinset :=
  StableHlo.forall_writes_sub_of_map rfl

/-- The chosen boxes gathered. -/
abbrev tailOps : List (HloOp τ sig (Elt F)) :=
  [ StableHlo.nullary main_c_5 (constantI S_ 32 0#32),
    StableHlo.unary main_c_5 main_v17 (broadcastInDim S300x8 ![] bcast_S_S300x8 : (⟨S_, .i32⟩ : BufTy).Contents (Elt F) → (⟨S300x8, .i32⟩ : BufTy).Contents (Elt F)),
    StableHlo.binary main_v16_4 main_v17 main_v18 (cmpi .slt : (⟨S300x8, .i32⟩ : BufTy).Contents (Elt F) → (⟨S300x8, .i32⟩ : BufTy).Contents (Elt F) → (⟨S300x8, .i1⟩ : BufTy).Contents (Elt F)),
    StableHlo.nullary main_c_6 (constantI S_ 32 20000#32),
    StableHlo.unary main_c_6 main_v19 (broadcastInDim S300x8 ![] bcast_S_S300x8 : (⟨S_, .i32⟩ : BufTy).Contents (Elt F) → (⟨S300x8, .i32⟩ : BufTy).Contents (Elt F)),
    StableHlo.binary main_v16_4 main_v19 main_v20 (addi : (⟨S300x8, .i32⟩ : BufTy).Contents (Elt F) → (⟨S300x8, .i32⟩ : BufTy).Contents (Elt F) → (⟨S300x8, .i32⟩ : BufTy).Contents (Elt F)),
    StableHlo.ternary main_v18 main_v20 main_v16_4 main_v21 (select : (⟨S300x8, .i1⟩ : BufTy).Contents (Elt F) → (⟨S300x8, .i32⟩ : BufTy).Contents (Elt F) → (⟨S300x8, .i32⟩ : BufTy).Contents (Elt F) → (⟨S300x8, .i32⟩ : BufTy).Contents (Elt F)),
    StableHlo.unary main_v21 main_v22 ((transpose S8x300 [1, 0] · transposes_S300x8_S8x300_1_0) : (⟨S300x8, .i32⟩ : BufTy).Contents (Elt F) → (⟨S8x300, .i32⟩ : BufTy).Contents (Elt F)),
    StableHlo.unary main_v22 main_v23 (broadcastInDim S8x300x1 ![0, 1] bcast_S8x300_S8x300x1_0_1 : (⟨S8x300, .i32⟩ : BufTy).Contents (Elt F) → (⟨S8x300x1, .i32⟩ : BufTy).Contents (Elt F)),
    StableHlo.binary main_v10 main_v23 main_v24 ((fun x i => Host.gather gather_S8x20000x4_S8x300x1_S8x300x4_2_1_0_0_1_2_114 x i) : (⟨S8x20000x4, .f32⟩ : BufTy).Contents (Elt F) → (⟨S8x300x1, .i32⟩ : BufTy).Contents (Elt F) → (⟨S8x300x4, .f32⟩ : BufTy).Contents (Elt F)),
    StableHlo.unary main_v16_5 main_v25 ((transpose S8x300 [1, 0] · transposes_S300x8_S8x300_1_0) : (⟨S300x8, .i1⟩ : BufTy).Contents (Elt F) → (⟨S8x300, .i1⟩ : BufTy).Contents (Elt F)),
    StableHlo.unary main_v25 main_v26 (broadcastInDim S8x300x1 ![0, 1] bcast_S8x300_S8x300x1_0_1 : (⟨S8x300, .i1⟩ : BufTy).Contents (Elt F) → (⟨S8x300x1, .i1⟩ : BufTy).Contents (Elt F)),
    StableHlo.nullary main_cst (constant S_ .f32 0xBF800000#32) ]
theorem tailOps_sub : (tailOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.unary_bufs_sub .., StableHlo.unary_bufs_sub .., StableHlo.nullary_bufs_sub ..⟩
theorem tailOps_fresh : (tailOps : List (HloOp τ sig (Elt F))).Forall fun op => op.fresh = ∅ :=
  StableHlo.forall_fresh_of_map rfl
/-- What `tailOps` writes. -/
abbrev tailOps_W : List (Ref sig .tc) := [main_c_5, main_v17, main_v18, main_c_6, main_v19, main_v20, main_v21, main_v22, main_v23, main_v24, main_v25, main_v26, main_cst]
theorem tailOps_writes : (tailOps : List (HloOp τ sig (Elt F))).Forall fun op => op.writes ⊆ (tailOps_W.map (Proc.devRef (τ := τ) .tc)).toFinset :=
  StableHlo.forall_writes_sub_of_map rfl

/-- Minus one in the slots that chose nothing. -/
abbrev fillOps : List (HloOp τ sig (Elt F)) :=
  [ StableHlo.TRef.unary (.of main_cst : StableHlo.TRef sig ⟨S_, .f32⟩) (.of main_call8_v0 : StableHlo.TRef sig ⟨S_, .f32⟩) id,
    StableHlo.TRef.unary (.of main_v26 : StableHlo.TRef sig ⟨S8x300x1, .i1⟩) (.of main_call8_v1 : StableHlo.TRef sig ⟨S8x300x4, .i1⟩) (broadcastInDim S8x300x4 ![0, 1, 2] bcast_S8x300x1_S8x300x4_0_1_2),
    StableHlo.TRef.unary (.of main_call8_v0 : StableHlo.TRef sig ⟨S_, .f32⟩) (.of main_call8_v2 : StableHlo.TRef sig ⟨S300x4, .f32⟩) (broadcastInDim S300x4 ![] bcast_S_S300x4),
    StableHlo.TRef.unary (.of main_call8_v2 : StableHlo.TRef sig ⟨S300x4, .f32⟩) (.of main_call8_v3 : StableHlo.TRef sig ⟨S8x300x4, .f32⟩) (broadcastInDim S8x300x4 ![1, 2] bcast_S300x4_S8x300x4_1_2),
    StableHlo.TRef.ternary (.of main_call8_v1 : StableHlo.TRef sig ⟨S8x300x4, .i1⟩) (.of main_v24 : StableHlo.TRef sig ⟨S8x300x4, .f32⟩) (.of main_call8_v3 : StableHlo.TRef sig ⟨S8x300x4, .f32⟩) (.of main_v27 : StableHlo.TRef sig ⟨S8x300x4, .f32⟩) select ]
theorem fillOps_sub : (fillOps : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.ternary_bufs_sub ..⟩
theorem fillOps_fresh : (fillOps : List (HloOp τ sig (Elt F))).Forall fun op => op.fresh = ∅ :=
  StableHlo.forall_fresh_of_map rfl
/-- What `fillOps` writes. -/
abbrev fillOps_W : List (Ref sig .tc) := [main_call8_v0, main_call8_v1, main_call8_v2, main_call8_v3, main_v27]
theorem fillOps_writes : (fillOps : List (HloOp τ sig (Elt F))).Forall fun op => op.writes ⊆ (fillOps_W.map (Proc.devRef (τ := τ) .tc)).toFinset :=
  StableHlo.forall_writes_sub_of_map rfl

/-- The program is these stretches around the loop. -/
theorem main_chain (c : Dev nD) : main (F := F) c = (Pipeline.chain
  [ StableHlo.seq scoreOps,
    StableHlo.seq sortOps,
    StableHlo.seq sortedOps,
    HostLoop.enter 0,
    StableHlo.seq tailOps,
    StableHlo.seq fillOps ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons]
  chain_rfl

/-- The loop body is these stretches. -/
theorem body_chain : main_while0_body (F := F) = (Pipeline.chain
  [ StableHlo.seq availOps,
    StableHlo.seq argmaxOps,
    StableHlo.seq takeOps,
    StableHlo.seq takeBoxOps,
    StableHlo.seq interOps,
    StableHlo.seq iouOps,
    StableHlo.seq whereOps,
    StableHlo.seq hitOps,
    StableHlo.seq keepOps,
    StableHlo.seq slotOps,
    StableHlo.seq flagOps,
    StableHlo.seq nextOps ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, Pipeline.chain_cons, Pipeline.chain_cons, StableHlo.chain_seq_cons, StableHlo.chain_seq_cons, Pipeline.chain_cons, StableHlo.chain_seq_cons, Pipeline.chain_cons, Pipeline.chain_cons, Pipeline.chain_cons, StableHlo.chain_seq_cons]
  chain_rfl

/-- The condition: the bound, and the counter compared with it. -/
abbrev condOps : List (HloOp τ sig (Elt F)) :=
  [ StableHlo.nullary main_while0c_c_12 (constantI S_ 32 300#32),
    StableHlo.binary main_v16_2 main_while0c_c_12 main_while0c_v28 (cmpi .slt) ]
abbrev condOps_W : List (Ref sig .tc) := [main_while0c_c_12, main_while0c_v28]
theorem condOps_writes : (condOps : List (HloOp τ sig (Elt F))).Forall fun op => op.writes ⊆ (condOps_W.map (Proc.devRef (τ := τ) .tc)).toFinset :=
  StableHlo.forall_writes_sub_of_map rfl

/-- The stretches before the loop. -/
abbrev preI : List (List (HloOp τ sig (Elt F))) := [scoreOps, sortOps, sortedOps]
theorem hpreI : Plain (preI (F := F)) := .cons scoreOps_sub (hf := List.forall_iff_forall_mem.mp scoreOps_fresh) (.cons sortOps_sub (hf := List.forall_iff_forall_mem.mp sortOps_fresh) (.cons sortedOps_sub (hf := List.forall_iff_forall_mem.mp sortedOps_fresh) (.nil)))

/-- The stretches of the loop body. -/
abbrev bodyI : List (List (HloOp τ sig (Elt F))) := [availOps, argmaxOps, takeOps, takeBoxOps, interOps, iouOps, whereOps, hitOps, keepOps, slotOps, flagOps, nextOps]
theorem hbodyI : Plain (bodyI (F := F)) := .cons availOps_sub (hf := List.forall_iff_forall_mem.mp availOps_fresh) (.cons argmaxOps_sub (hf := List.forall_iff_forall_mem.mp argmaxOps_fresh) (.cons takeOps_sub (hf := List.forall_iff_forall_mem.mp takeOps_fresh) (.cons takeBoxOps_sub (hf := List.forall_iff_forall_mem.mp takeBoxOps_fresh) (.cons interOps_sub (hf := List.forall_iff_forall_mem.mp interOps_fresh) (.cons iouOps_sub (hf := List.forall_iff_forall_mem.mp iouOps_fresh) (.cons whereOps_sub (hf := List.forall_iff_forall_mem.mp whereOps_fresh) (.cons hitOps_sub (hf := List.forall_iff_forall_mem.mp hitOps_fresh) (.cons keepOps_sub (hf := List.forall_iff_forall_mem.mp keepOps_fresh) (.cons slotOps_sub (hf := List.forall_iff_forall_mem.mp slotOps_fresh) (.cons flagOps_sub (hf := List.forall_iff_forall_mem.mp flagOps_fresh) (.cons nextOps_sub (hf := List.forall_iff_forall_mem.mp nextOps_fresh) (.nil))))))))))))

/-- The stretches after the loop. -/
abbrev postI : List (List (HloOp τ sig (Elt F))) := [tailOps, fillOps]
theorem hpostI : Plain (postI (F := F)) := .cons tailOps_sub (hf := List.forall_iff_forall_mem.mp tailOps_fresh) (.cons fillOps_sub (hf := List.forall_iff_forall_mem.mp fillOps_fresh) (.nil))

end Cert.ReferenceIdeal.Own
-- ==== Proof.RefRun.lean ====
/-
The reference's run: the loop makes 300 trips, so every fair execution ends with every buffer at the fold of its
operations; and the argument arrays end unchanged.
-/
module

public import proofs.«01_k».proof.Proof.RefOps
public import Idealize.ShloMosaic.Lib.Scf.ExitTest
public import Idealize.ShloMosaic.Lib.Scf.Counter
public import Idealize.ShloMosaic.Lib.Quiescent

set_option maxRecDepth 1832

@[expose] public section

namespace Cert.ReferenceIdeal.Own

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## What no stretch writes stays -/

/-- What the stretches write. -/
abbrev pre_W : List (Ref sig .tc) := scoreOps_W ++ (sortOps_W ++ (sortedOps_W))

theorem pre_keeps {r : Ref sig .tc} (h : r ∉ pre_W) (V : Valuation τ sig (Elt F)) :
    afterL preI V (Proc.devRef .tc r) = V (Proc.devRef .tc r) := by
  simp only [pre_W, List.mem_append, not_or] at h
  obtain ⟨h0, h1, h2⟩ := h
  simp only [afterL_cons, afterL_nil]
  rw [after_of_writes_sub sortedOps _ sortedOps_writes h2, after_of_writes_sub sortOps _ sortOps_writes h1, after_of_writes_sub scoreOps _ scoreOps_writes h0]

/-- What the stretches write. -/
abbrev body_W : List (Ref sig .tc) := availOps_W ++ (argmaxOps_W ++ (takeOps_W ++ (takeBoxOps_W ++ (interOps_W ++ (iouOps_W ++ (whereOps_W ++ (hitOps_W ++ (keepOps_W ++ (slotOps_W ++ (flagOps_W ++ (nextOps_W)))))))))))

theorem body_keeps {r : Ref sig .tc} (h : r ∉ body_W) (V : Valuation τ sig (Elt F)) :
    afterL bodyI V (Proc.devRef .tc r) = V (Proc.devRef .tc r) := by
  simp only [body_W, List.mem_append, not_or] at h
  obtain ⟨h0, h1, h2, h3, h4, h5, h6, h7, h8, h9, h10, h11⟩ := h
  simp only [afterL_cons, afterL_nil]
  rw [after_of_writes_sub nextOps _ nextOps_writes h11, after_of_writes_sub flagOps _ flagOps_writes h10, after_of_writes_sub slotOps _ slotOps_writes h9, after_of_writes_sub keepOps _ keepOps_writes h8, after_of_writes_sub hitOps _ hitOps_writes h7, after_of_writes_sub whereOps _ whereOps_writes h6, after_of_writes_sub iouOps _ iouOps_writes h5, after_of_writes_sub interOps _ interOps_writes h4, after_of_writes_sub takeBoxOps _ takeBoxOps_writes h3, after_of_writes_sub takeOps _ takeOps_writes h2, after_of_writes_sub argmaxOps _ argmaxOps_writes h1, after_of_writes_sub availOps _ availOps_writes h0]

/-- What the stretches write. -/
abbrev post_W : List (Ref sig .tc) := tailOps_W ++ (fillOps_W)

theorem post_keeps {r : Ref sig .tc} (h : r ∉ post_W) (V : Valuation τ sig (Elt F)) :
    afterL postI V (Proc.devRef .tc r) = V (Proc.devRef .tc r) := by
  simp only [post_W, List.mem_append, not_or] at h
  obtain ⟨h0, h1⟩ := h
  simp only [afterL_cons, afterL_nil]
  rw [after_of_writes_sub fillOps _ fillOps_writes h1, after_of_writes_sub tailOps _ tailOps_writes h0]

theorem cond_keeps {r : Ref sig .tc} (h : r ∉ condOps_W) (V : Valuation τ sig (Elt F)) :
    after condOps V (Proc.devRef .tc r) = V (Proc.devRef .tc r) :=
  after_of_writes_sub condOps V condOps_writes h

/-! ## The counter -/

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- A buffer neither the body nor the condition writes is as the loop found it. -/
theorem atK_keeps {r : Ref sig .tc} (hb : r ∉ body_W) (hc : r ∉ condOps_W) (c : Dev nD) :
    ∀ k, atK m k c (Proc.devRef .tc r) = entryContents preI m c (Proc.devRef .tc r)
  | 0 => rfl
  | k + 1 => by
    rw [show atK m (k + 1) c = afterL bodyI (after condOps (atK m k c)) from rfl, body_keeps hb, cond_keeps hc,
      atK_keeps hb hc c k]

set_option maxRecDepth 100000 in
/-- The body's last stretch leaves the counter one step on. -/
theorem ctr_next (X : Valuation τ sig (Elt F)) :
    after nextOps X (Proc.devRef .tc main_v16_2) = addi (X (Proc.devRef .tc main_v16_2)) (constantI S_ 32 1#32) := by
  after_results
  rfl

/-- The body leaves the counter one step on. -/
theorem ctr_body (X : Valuation τ sig (Elt F)) :
    afterL bodyI X (Proc.devRef .tc main_v16_2) = addi (X (Proc.devRef .tc main_v16_2)) (constantI S_ 32 1#32) := by
  simp only [afterL_cons, afterL_nil]
  rw [ctr_next, after_of_writes_sub flagOps _ flagOps_writes (by decide +kernel), after_of_writes_sub slotOps _ slotOps_writes (by decide +kernel), after_of_writes_sub keepOps _ keepOps_writes (by decide +kernel), after_of_writes_sub hitOps _ hitOps_writes (by decide +kernel), after_of_writes_sub whereOps _ whereOps_writes (by decide +kernel), after_of_writes_sub iouOps _ iouOps_writes (by decide +kernel), after_of_writes_sub interOps _ interOps_writes (by decide +kernel), after_of_writes_sub takeBoxOps _ takeBoxOps_writes (by decide +kernel), after_of_writes_sub takeOps _ takeOps_writes (by decide +kernel), after_of_writes_sub argmaxOps _ argmaxOps_writes (by decide +kernel), after_of_writes_sub availOps _ availOps_writes (by decide +kernel)]

/-- The counter starts at zero. -/
theorem ctr_entry (c : Dev nD) : entryContents preI m c (Proc.devRef .tc main_v16_2) = fun _ => (0#32 : BitVec 32) := by
  simp only [entryContents, afterL_cons, afterL_nil]
  after_reads_simp
  rfl

/-- Before the `k`-th condition the counter is `k`. -/
theorem atK_ctr (c : Dev nD) : ∀ k, atK m k c (Proc.devRef .tc main_v16_2) = fun _ => Scf.iv 0#32 1#32 k
  | 0 => by rw [show atK m 0 c = entryContents preI m c from rfl, ctr_entry, Scf.iv_zero]
  | k + 1 => by
    rw [show atK m (k + 1) c = afterL bodyI (after condOps (atK m k c)) from rfl, ctr_body,
      cond_keeps (by decide +kernel), atK_ctr c k, Scf.iv_succ]
    rfl

set_option backward.isDefEq.respectTransparency.types false in
/-- The condition holds for the first 300 trips and then fails. -/
theorem cond_spec : CondSpec (pcfgs (F := F)) defs₀ loops (main_while0_cond (F := F)) condOps bodyI (entryContents preI m) 300 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v16_2 HostLoop.idx0)
        (HloOp.result _ (atK m k c) main_while0c_c_12 HostLoop.idx0) = 1#1) (k < 300)
    rw [nullary_result_ne _ _ _ _ (by decide), nullary_result, hctr]
    exact Scf.cmpi_slt_iv_ub_iff (lb := 0#32) (ub := 300#32) (st := 1#32) (by decide) (show k ≤ Scf.trips 0#32 300#32 1#32 from hk)
  isplitl [Hb]; · iexact Hb
  rw [after_cons, after_cons, after_nil]; iexact Hh

set_option maxRecDepth 100000 in
/-- Every fair execution terminates with every unscoped buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 300 m c (Proc.devRef .tc b)) :=
  run_loop (pcfgs (F := F)) defs₀ loops main 0 main_while0_cond main_while0_body rfl preI bodyI postI condOps hpreI hbodyI hpostI
    (fun c => by rw [main_chain]; rfl) (by rw [body_chain]; rfl) 300 m ρ (cond_spec m)

/-! ## The frame -/

/-- What no stretch and no condition writes ends as it began. -/
theorem final_keeps {r : Ref sig .tc} (h₁ : r ∉ pre_W) (h₂ : r ∉ body_W) (h₃ : r ∉ condOps_W) (h₄ : r ∉ post_W) (c : Dev nD) :
    finalContents condOps preI bodyI postI 300 m c (Proc.devRef .tc r) = m ((c.tc : Thread nD τ).loc r) := by
  rw [show finalContents condOps preI bodyI postI 300 m c = afterL postI (after condOps (atK m 300 c)) from rfl,
    post_keeps h₄, cond_keeps h₃, atK_keeps m h₂ h₃, show entryContents preI m c = afterL preI (launchContents m c) from rfl,
    pre_keeps h₁]

theorem arg0_keeps (c : Dev nD) : finalContents condOps preI bodyI postI 300 m c (Proc.devRef .tc main_arg0)
    = m ((c.tc : Thread nD τ).loc main_arg0) :=
  final_keeps m (by decide +kernel) (by decide +kernel) (by decide +kernel) (by decide +kernel) c

theorem arg1_keeps (c : Dev nD) : finalContents condOps preI bodyI postI 300 m c (Proc.devRef .tc main_arg1)
    = m ((c.tc : Thread nD τ).loc main_arg1) :=
  final_keeps m (by decide +kernel) (by decide +kernel) (by decide +kernel) (by decide +kernel) c

/-- The result array at the fold, and the argument arrays unchanged. -/
theorem run_value : θ_run (defs (F := F)) (onTc (τ := τ) (main (F := F))) ⟨m, fun _ => 0, ρ⟩ (fun r => ∀ c : Dev nD,
      r.2.mem ((c.tc : Thread nD τ).loc main_v27) = finalContents condOps preI bodyI postI 300 m c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨h c main_v27 (by decide +kernel),
    (h c main_arg0 (by decide +kernel)).trans (arg0_keeps m c), (h c main_arg1 (by decide +kernel)).trans (arg1_keeps m c)⟩)
    (run_fold m ρ)

/-- The frame claim. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (run_value m ρ)

end Cert.ReferenceIdeal.Own

end
-- ==== Proof.KernelValue.lean ====
/- What the ideal kernel's program leaves in its result array: the host prefix gives the region its five operands, the
   region's one point writes `nmsRows` of them, and the last line transposes it. -/
module

public import proofs.«01_k».proof.Proof.KernelFrame
public import Idealize.ShloMosaic.Lib.Pipeline.ValueKit
public import Idealize.ShloMosaic.Lib.StableHlo.RunRead

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- The padded scores. -/
def scoresOf (x : Vec F S8x20000x2 .f32) : Vec F S8x20480 .f32 :=
  pad S8x20480 ![0, 0] ![0, 480] ![0, 0]
    (shapeCast S8x20000 (extractStridedSlice S8x20000x1 ![0, 0, 1] x slices_S8x20000x2_S8x20000x1_0_0_1) shapeCasts_S8x20000x1_S8x20000)
    (constant S_ .f32 0xFF800000#32) pads_S8x20000_S8x20480_000_04800 h_S_

/-- The padded boxes. -/
def boxesOf (y : Vec F S8x20000x4 .f32) : Vec F S8x20480x4 .f32 :=
  pad S8x20480x4 ![0, 0, 0] ![0, 480, 0] ![0, 0, 0] y (sitofp .f32 (constantI S_ 32 0#32))
    pads_S8x20000x4_S8x20480x4_000_04800_000 h_S_

/-- The four coordinates of the padded boxes. -/
def y1Of (y : Vec F S8x20000x4 .f32) : Vec F S8x20480 .f32 :=
  shapeCast S8x20480 (extractStridedSlice S8x20480x1 ![0, 0, 0] (boxesOf y) slices_S8x20480x4_S8x20480x1_0_0_0) shapeCasts_S8x20480x1_S8x20480
def x1Of (y : Vec F S8x20000x4 .f32) : Vec F S8x20480 .f32 :=
  shapeCast S8x20480 (extractStridedSlice S8x20480x1 ![0, 0, 1] (boxesOf y) slices_S8x20480x4_S8x20480x1_0_0_1) shapeCasts_S8x20480x1_S8x20480
def y2Of (y : Vec F S8x20000x4 .f32) : Vec F S8x20480 .f32 :=
  shapeCast S8x20480 (extractStridedSlice S8x20480x1 ![0, 0, 2] (boxesOf y) slices_S8x20480x4_S8x20480x1_0_0_2) shapeCasts_S8x20480x1_S8x20480
def x2Of (y : Vec F S8x20000x4 .f32) : Vec F S8x20480 .f32 :=
  shapeCast S8x20480 (extractStridedSlice S8x20480x1 ![0, 0, 3] (boxesOf y) slices_S8x20480x4_S8x20480x1_0_0_3) shapeCasts_S8x20480x1_S8x20480

/-- The one point of the region. -/
abbrev pt : Fin cfg0.N := ⟨0, by decide⟩

/-! ## The operands as the region finds them -/

theorem V_v2 (c : Dev nD) : V m c main_v2 = scoresOf (m ((c : Thread nD τ).loc main_arg0)) := by
  unfold V V0
  simp only [List.flatten_cons, List.flatten_nil, List.append_nil, List.cons_append, List.nil_append]
  after_results
  rfl
theorem V_v5 (c : Dev nD) : V m c main_v5 = y1Of (m ((c : Thread nD τ).loc main_arg1)) := by
  unfold V V0
  simp only [List.flatten_cons, List.flatten_nil, List.append_nil, List.cons_append, List.nil_append]
  after_results
  rfl
theorem V_v7 (c : Dev nD) : V m c main_v7 = x1Of (m ((c : Thread nD τ).loc main_arg1)) := by
  unfold V V0
  simp only [List.flatten_cons, List.flatten_nil, List.append_nil, List.cons_append, List.nil_append]
  after_results
  rfl
theorem V_v9 (c : Dev nD) : V m c main_v9 = y2Of (m ((c : Thread nD τ).loc main_arg1)) := by
  unfold V V0
  simp only [List.flatten_cons, List.flatten_nil, List.append_nil, List.cons_append, List.nil_append]
  after_results
  rfl
theorem V_v11 (c : Dev nD) : V m c main_v11 = x2Of (m ((c : Thread nD τ).loc main_arg1)) := by
  unfold V V0
  simp only [List.flatten_cons, List.flatten_nil, List.append_nil, List.cons_append, List.nil_append]
  after_results
  rfl

/-! ## Each window is its whole array -/

theorem idx0 : ∀ t : Fin cfg0.N, win0_0.index t = ![0, 0] :=
  (by decide +kernel : ∀ t : Fin grid0.N, win0_0.index t = ![0, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem iblk_0 (c : Dev nD) (t : Fin cfg0.N) : iblk m c 0 t = V m c main_v2 := by
  blk_ext! [iblk, idx0 t]
theorem iblk_1 (c : Dev nD) (t : Fin cfg0.N) : iblk m c 1 t = V m c main_v5 := by
  blk_ext! [iblk, idx1 t]
theorem iblk_2 (c : Dev nD) (t : Fin cfg0.N) : iblk m c 2 t = V m c main_v7 := by
  blk_ext! [iblk, idx2 t]
theorem iblk_3 (c : Dev nD) (t : Fin cfg0.N) : iblk m c 3 t = V m c main_v9 := by
  blk_ext! [iblk, idx3 t]
theorem iblk_4 (c : Dev nD) (t : Fin cfg0.N) : iblk m c 4 t = V m c main_v11 := by
  blk_ext! [iblk, idx4 t]

/-- The rows that the program computes from its two arguments. -/
def kernelRows (x : Vec F S8x20000x2 .f32) (y : Vec F S8x20000x4 .f32) : Vec F S300x8x4 .f32 :=
  nmsRows (scoresOf x) (y1Of y) (x1Of y) (y2Of y) (x2Of y)

/-- What the region leaves in its result array. -/
theorem final (c : Dev nD) : (dats m 0 c).arrAt 5 cfg0.N
    = kernelRows (m ((c : Thread nD τ).loc main_arg0)) (m ((c : Thread nD τ).loc main_arg1)) := by
  refine (dats m 0 c).arrAt_eq_of_after_last 5 pt (by decide +kernel) _ fun j => ?_
  blk_simp
  rw [after0_5, iblk_0, iblk_1, iblk_2, iblk_3, iblk_4, V_v2, V_v5, V_v7, V_v9, V_v11]
  rfl

/-- The last line transposes it. -/
theorem tail_v13 (c : Dev nD) : Pipeline.afterTail₀ cfgs (dats m) 0 (V0 m) [hostOps1] c main_v13
    = transpose S8x300x4 [1, 0, 2] (kernelRows (m ((c : Thread nD τ).loc main_arg0)) (m ((c : Thread nD τ).loc main_arg1)))
        transposes_S300x8x4_S8x300x4_1_0_2 := by
  have h := Pipeline.withArrays_arr spec0 launch0.win.arr_inj c (V0 m c) (fun w => (dats m 0 c).arrAt w cfg0.N) 5
  unfold Pipeline.afterTail₀
  simp only [List.flatten_cons, List.flatten_nil, List.append_nil]
  after_results
  rw [← final m c, ← h]

/-- The program's run: its result array at the transposed rows, its arguments unchanged. -/
theorem value : θ_run defs (onTc (τ := τ) (main (F := F))) ⟨m, fun _ => 0, ρ⟩ (fun r => ∀ c : Dev nD,
      r.2.mem ((c.tc : Thread nD τ).loc main_v13)
        = transpose S8x300x4 [1, 0, 2] (kernelRows (m ((c : Thread nD τ).loc main_arg0)) (m ((c : Thread nD τ).loc main_arg1)))
            transposes_S300x8x4_S8x300x4_1_0_2
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v13 (Pipeline.mem_restRefs_of main_v13 (by decide) (by decide))).trans (tail_v13 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩) (run_main m ρ)

end Cert.KernelIdeal.Own

end
-- ==== Proof.Overlap.lean ====
/-
The overlap of two boxes over the extended reals, a box given by its four coordinates, and what both programs decide by
it.
-/
module

public import Idealize.ShloMosaic.Lib.Pointwise

@[expose] public section

noncomputable section

namespace Cert.Nms

open Idealize.ShloMosaic

/-- The area of a box. -/
def areaE (p : Fin 4 → EReal) : EReal := max (p 2 - p 0) 0 * max (p 3 - p 1) 0

/-- The area of the intersection of two boxes. -/
def interE (p q : Fin 4 → EReal) : EReal :=
  max (min (p 2) (q 2) - max (p 0) (q 0)) 0 * max (min (p 3) (q 3) - max (p 1) (q 1)) 0

/-- The area of their union. -/
def unionE (p q : Fin 4 → EReal) : EReal := areaE p + areaE q - interE p q

/-- Intersection over union, zero where the union is not positive. -/
def iouE (p q : Fin 4 → EReal) : EReal := if 0 < unionE p q then Ideal.div (interE p q) (unionE p q) else 0

/-- The two boxes overlap by more than one half. -/
def Overlaps (p q : Fin 4 → EReal) : Prop := Ideal.ofBits .f32 0x3F000000#32 < iouE p q

instance (p q : Fin 4 → EReal) : Decidable (Overlaps p q) :=
  inferInstanceAs (Decidable (Ideal.ofBits .f32 0x3F000000#32 < iouE p q))

/-- Two bits' disjunction, as a decision. -/
theorem ori_ofBool (p q : Prop) [Decidable p] [Decidable q] :
    IntOp.ori (BitVec.ofBool (decide p)) (BitVec.ofBool (decide q)) = BitVec.ofBool (decide (p ∨ q)) := by
  by_cases hp : p <;> by_cases hq : q <;> simp [hp, hq] <;> rfl

/-- A selection by a decided bit. -/
theorem select_ofBool {α : Type} (p : Prop) [Decidable p] (x y : α) :
    Scalar.select (BitVec.ofBool (decide p)) x y = if p then x else y := by
  by_cases hp : p <;> simp [hp, Scalar.select]

/-- The equality of two words of small numbers. -/
theorem cmpi_eq_ofNat {i j : ℕ} (hi : i < 2 ^ 32) (hj : j < 2 ^ 32) :
    IntOp.cmpi .eq (BitVec.ofNat 32 i) (BitVec.ofNat 32 j) = BitVec.ofBool (decide (i = j)) := by
  by_cases h : i = j
  · subst h; simp [IntOp.cmpi]
  · have : BitVec.ofNat 32 i ≠ BitVec.ofNat 32 j := fun e => h (by
      have := congrArg BitVec.toNat e
      rw [BitVec.toNat_ofNat, BitVec.toNat_ofNat, Nat.mod_eq_of_lt hi, Nat.mod_eq_of_lt hj] at this
      exact this)
    simp only [IntOp.cmpi, h, decide_false, beq_eq_false_iff_ne.mpr this]

/-- Minus infinity. -/
theorem ofBits_neg_inf : Ideal.ofBits .f32 0xFF800000#32 = ⊥ := by
  show Ideal.ieee 8 23 (0xFF800000#32) = ⊥
  unfold Ideal.ieee
  rw [if_pos (by decide), if_pos (by decide), if_pos (by decide)]

end Cert.Nms

end
-- ==== Proof.KernelRead.lean ====
/-
One trip of the kernel over the extended reals, read at an element: `i₀` the first lane that holds the row's largest score,
the next scores and the stored row are given by the box at `i₀`.
-/
module

public import proofs.«01_k».proof.Proof.KernelValue
public import proofs.«01_k».proof.Proof.Overlap

@[expose] public section

noncomputable section

namespace Cert.KernelIdeal.Own

open Idealize.ShloMosaic
open Cert.KernelIdeal Cert.KernelIdeal.Gen Cert.Nms

abbrev Arr := Vec Ideal S8x20480 .f32

/-- Lane `i₀` of row `e` is the first that holds the row's largest value. -/
structure FirstMax (L : Arr) (e : Fin 8) (i₀ : Fin 20480) : Prop where
  max : ∀ i, L (ix2 e i) ≤ L (ix2 e i₀)
  first : ∀ i, L (ix2 e i) = L (ix2 e i₀) → i₀ ≤ i

/-- The four coordinates of the box at a lane. -/
def boxK (a b c d : Arr) (e : Fin 8) (i : Fin 20480) : Fin 4 → EReal :=
  ![a (ix2 e i), b (ix2 e i), c (ix2 e i), d (ix2 e i)]

variable {a b c d L : Arr} {e : Fin 8} {i₀ : Fin 20480}

/-- The row's maximum. -/
theorem max_read (h : FirstMax L e i₀) : k0_pay8 (F := Ideal) L (ix2 e 0) = L (ix2 e i₀) := by
  pointwise [k0_pay8]
  refine le_antisymm ?_ ?_
  · rw [Finset.fold_max_le]
    exact ⟨by rw [ofBits_neg_inf]; exact bot_le, fun i _ => h.max i⟩
  · rw [Finset.le_fold_max]
    exact Or.inr ⟨i₀, Finset.mem_univ _, le_rfl⟩

/-- A signed minimum over words, as a minimum over integers. -/
theorem toInt_fold_minsi {ι : Type} (s : Finset ι) (c : BitVec 32) (f : ι → BitVec 32) :
    (s.fold IntOp.minsi c f).toInt = s.fold min c.toInt (fun x => (f x).toInt) := by
  refine (Finset.fold_hom (op := IntOp.minsi) (op' := min) (m := BitVec.toInt) (fun x y => ?_)).symm
  unfold IntOp.minsi
  rw [min_def]
  by_cases hxy : x.toInt < y.toInt
  · rw [if_pos hxy.le]; simp [BitVec.slt, hxy]
  · by_cases hyx : x.toInt ≤ y.toInt
    · rw [if_pos hyx]; simp [BitVec.slt, hxy]; omega
    · rw [if_neg hyx]; simp [BitVec.slt, hxy]

theorem toInt_small {n : ℕ} (h : n < 2 ^ 31) : (BitVec.ofNat 32 n).toInt = n := by
  rw [BitVec.toInt_eq_toNat_of_lt] <;> rw [BitVec.toNat_ofNat, Nat.mod_eq_of_lt (by omega)]
  omega

/-- The lane taken. -/
theorem sel_read (h : FirstMax L e i₀) (i : Fin 20480) :
    k0_pay10 (F := Ideal) lanes L (ix2 e i) = BitVec.ofBool (decide (i = i₀)) := by
  have hmin : Finset.fold IntOp.minsi (2147483647#32)
        (fun x : Fin 20480 => if L (ix2 e x) = k0_pay8 (F := Ideal) L (ix2 e 0) then BitVec.ofNat 32 x.val else 20480#32) Finset.univ
      = BitVec.ofNat 32 i₀.val := by
    apply BitVec.eq_of_toInt_eq
    rw [toInt_fold_minsi, toInt_small (n := i₀.val) (by omega)]
    refine le_antisymm ?_ ?_
    · rw [Finset.fold_min_le]
      refine Or.inr ⟨i₀, Finset.mem_univ _, ?_⟩
      rw [if_pos (max_read h).symm, toInt_small (n := i₀.val) (by omega)]
    · rw [Finset.le_fold_min]
      refine ⟨by have : (2147483647#32).toInt = 2147483647 := by decide
                 omega, fun x _ => ?_⟩
      by_cases hx : L (ix2 e x) = k0_pay8 (F := Ideal) L (ix2 e 0)
      · rw [if_pos hx, toInt_small (n := x.val) (by omega)]
        have := h.first x (hx.trans (max_read h))
        exact_mod_cast this
      · rw [if_neg hx]
        have : (20480#32).toInt = 20480 := by decide
        omega
  pointwise [k0_pay10, lanes]
  rw [hmin, cmpi_eq_ofNat (by omega) (by omega)]
  simp only [Fin.ext_iff]

/-- The one-hot sum of a coordinate is the coordinate at the lane taken. -/
theorem pick_sum (h : FirstMax L e i₀) (x : Arr) :
    (∑ i : Fin 20480, (FloatOps.sitofp .f32 (BitVec.setWidth 32 (k0_pay10 (F := Ideal) lanes L (ix2 e i))) : Ideal .f32) * x (ix2 e i) : EReal)
      = x (ix2 e i₀) := by
  have hone : (FloatOps.sitofp .f32 (BitVec.setWidth 32 (1#1)) : Ideal .f32) = (1 : EReal) := by
    show (((BitVec.setWidth 32 (1#1)).toInt : ℝ) : EReal) = 1
    have : (BitVec.setWidth 32 (1#1)).toInt = 1 := by decide
    rw [this]; simp
  have hzero : (FloatOps.sitofp .f32 (BitVec.setWidth 32 (0#1)) : Ideal .f32) = (0 : EReal) := by
    show (((BitVec.setWidth 32 (0#1)).toInt : ℝ) : EReal) = 0
    have : (BitVec.setWidth 32 (0#1)).toInt = 0 := by decide
    rw [this]; simp
  rw [Finset.sum_eq_single i₀]
  · rw [sel_read h]
    rw [show BitVec.ofBool (decide (i₀ = i₀)) = 1#1 by simp, hone]; exact one_mul _
  · intro i _ hi
    rw [sel_read h]
    rw [show BitVec.ofBool (decide (i = i₀)) = 0#1 by simp [hi], hzero]; exact zero_mul _
  · intro hn; exact absurd (Finset.mem_univ _) hn

theorem pick0 (h : FirstMax L e i₀) (x : Arr) : k0_pay12 (F := Ideal) x lanes L (ix2 e 0) = x (ix2 e i₀) := by
  pointwise [k0_pay12, k0_pay11]
  exact pick_sum h x
theorem pick1 (h : FirstMax L e i₀) (x : Arr) : k0_pay13 (F := Ideal) x lanes L (ix2 e 0) = x (ix2 e i₀) := by
  pointwise [k0_pay13, k0_pay11]
  exact pick_sum h x
theorem pick2 (h : FirstMax L e i₀) (x : Arr) : k0_pay14 (F := Ideal) x lanes L (ix2 e 0) = x (ix2 e i₀) := by
  pointwise [k0_pay14, k0_pay11]
  exact pick_sum h x
theorem pick3 (h : FirstMax L e i₀) (x : Arr) : k0_pay15 (F := Ideal) x lanes L (ix2 e 0) = x (ix2 e i₀) := by
  pointwise [k0_pay15, k0_pay11]
  exact pick_sum h x

/-- The scores after a trip: minus infinity at the lane taken and at the lanes whose box overlaps it. -/
theorem nextLive_read (h : FirstMax L e i₀) (i : Fin 20480) :
    nextLive (F := Ideal) a b c d L (ix2 e i)
      = if Overlaps (boxK a b c d e i₀) (boxK a b c d e i) ∨ i = i₀ then ⊥ else L (ix2 e i) := by
  pointwise [nextLive, k0_pay6, k0_pay16, k0_pay17, k0_pay18, k0_pay2, k0_pay3, k0_pay4, k0_pay5]
  rw [pick0 h, pick1 h, pick2 h, pick3 h, sel_read h, ofBits_neg_inf, ori_ofBool, select_ofBool]
  rfl

/-- The row a trip stores: the box taken, or minus ones where the row's largest score is minus infinity. -/
theorem rowOf_read (h : FirstMax L e i₀) (j : Fin 4) :
    rowOf (F := Ideal) a b c d L (ix3 0 e j)
      = if ⊥ < L (ix2 e i₀) then boxK a b c d e i₀ j else Ideal.ofBits .f32 0xBF800000#32 := by
  pointwise [rowOf, k0_pay7, k0_pay9, k0_pay2, k0_pay3, k0_pay4, k0_pay5]
  rw [max_read h, ofBits_neg_inf]
  congr 1
  fin_cases j
  · exact pick0 h a
  · exact pick1 h b
  · exact pick2 h c
  · exact pick3 h d

end Cert.KernelIdeal.Own

end
-- ==== Proof.KernelPads.lean ====
/-
The kernel's five operands over the extended reals, read at a lane: the arguments' entries at the first 20000 lanes, the
score minus infinity behind them.
-/
module

public import proofs.«01_k».proof.Proof.KernelRead

@[expose] public section

noncomputable section

namespace Cert.KernelIdeal.Own

open Idealize.ShloMosaic
open Cert.KernelIdeal Cert.KernelIdeal.Gen Cert.Nms

variable (x : Vec Ideal S8x20000x2 .f32) (y : Vec Ideal S8x20000x4 .f32) (e : Fin 8)

theorem scores_read (i : Fin 20480) :
    scoresOf (F := Ideal) x (ix2 e i) = if h : i.val < 20000 then x (ix3 e ⟨i.val, h⟩ 1) else ⊥ := by
  pointwise [scoresOf]
  rw [ofBits_neg_inf]

theorem y1_read (i : Fin 20000) : y1Of (F := Ideal) y (ix2 e ⟨i.val, by omega⟩) = y (ix3 e i 0) := by
  pointwise [y1Of, boxesOf]
theorem x1_read (i : Fin 20000) : x1Of (F := Ideal) y (ix2 e ⟨i.val, by omega⟩) = y (ix3 e i 1) := by
  pointwise [x1Of, boxesOf]
theorem y2_read (i : Fin 20000) : y2Of (F := Ideal) y (ix2 e ⟨i.val, by omega⟩) = y (ix3 e i 2) := by
  pointwise [y2Of, boxesOf]
theorem x2_read (i : Fin 20000) : x2Of (F := Ideal) y (ix2 e ⟨i.val, by omega⟩) = y (ix3 e i 3) := by
  pointwise [x2Of, boxesOf]

/-- A lane's box is the argument's. -/
theorem boxK_read (i : Fin 20000) :
    boxK (y1Of (F := Ideal) y) (x1Of y) (y2Of y) (x2Of y) e ⟨i.val, by omega⟩ = fun c => y (ix3 e i c) := by
  funext c
  fin_cases c
  · exact y1_read y e i
  · exact x1_read y e i
  · exact y2_read y e i
  · exact x2_read y e i

/-- The scratch before the first trip is the scores. -/
theorem live0_read (s : Arr) (i : Fin 20480) : k0_pay1 (F := Ideal) s (ix2 e i) = s (ix2 e i) := by
  pointwise [k0_pay1]

end Cert.KernelIdeal.Own

end
-- ==== Proof.RefTrip.lean ====
/-
What one trip of the reference's loop computes, as functions of the buffers it carries: the positions still available,
the first of them, its box, the overlap of every box with it, and the buffers of the next trip.
-/
module

public import proofs.«01_k».proof.Proof.RefRun

@[expose] public section

set_option maxRecDepth 16384

noncomputable section

namespace Cert.ReferenceIdeal.Own

open Cert.ReferenceIdeal Cert.ReferenceIdeal.Gen
open Idealize.ShloMosaic Idealize.ShloMosaic.TcCoe Idealize.ShloMosaic.Tactic
open Idealize.SL.Sem
open Idealize.ShloMosaic.StableHlo

variable {F : FTy → Type} [FloatOps F]

/-! ## The trip's functions -/

/-- The first available position of every image (zero if there is none). -/
def firstOf (avail : IVec S8x20000 1) : IVec S8 32 := fun j =>
  (Host.reduce2 reducer_argmax_i1_i32 avail (iotaInDim S8x20000 32 1) (constantI S_ 1 0#1) (constantI S_ 32 0#32)
    reducesTo_S8x20000_S8_d1 h_S_ j).2

/-- Whether that position is available. -/
def takenOf (avail : IVec S8x20000 1) (i : IVec S8 32) : IVec S8 1 :=
  Host.gather gather_S8x20000_S8x1_S8_n_1_0_0_1_1_11 avail (broadcastInDim S8x1 ![0] bcast_S8_S8x1_0 i)

/-- The box at that position. -/
def boxAt (bs : FVec F S8x20000x4 .f32) (i : IVec S8 32) : FVec F S8x4 .f32 :=
  Host.gather gather_S8x20000x4_S8x1_S8x4_1_1_0_0_1_1_114 bs (broadcastInDim S8x1 ![0] bcast_S8_S8x1_0 i)

/-- A coordinate of the chosen boxes. -/
def bcol0 (x : FVec F S8x4 .f32) : FVec F S8 .f32 := shapeCast S8 (extractStridedSlice S8x1 ![0, 0] x slices_S8x4_S8x1_0_0) shapeCasts_S8x1_S8
def bcol1 (x : FVec F S8x4 .f32) : FVec F S8 .f32 := shapeCast S8 (extractStridedSlice S8x1 ![0, 1] x slices_S8x4_S8x1_0_1) shapeCasts_S8x1_S8
def bcol2 (x : FVec F S8x4 .f32) : FVec F S8 .f32 := shapeCast S8 (extractStridedSlice S8x1 ![0, 2] x slices_S8x4_S8x1_0_2) shapeCasts_S8x1_S8
def bcol3 (x : FVec F S8x4 .f32) : FVec F S8 .f32 := shapeCast S8 (extractStridedSlice S8x1 ![0, 3] x slices_S8x4_S8x1_0_3) shapeCasts_S8x1_S8

/-- A coordinate of all boxes. -/
def col0 (x : FVec F S8x20000x4 .f32) : FVec F S8x20000 .f32 := shapeCast S8x20000 (extractStridedSlice S8x20000x1 ![0, 0, 0] x slices_S8x20000x4_S8x20000x1_0_0_0) shapeCasts_S8x20000x1_S8x20000
def col1 (x : FVec F S8x20000x4 .f32) : FVec F S8x20000 .f32 := shapeCast S8x20000 (extractStridedSlice S8x20000x1 ![0, 0, 1] x slices_S8x20000x4_S8x20000x1_0_0_1) shapeCasts_S8x20000x1_S8x20000
def col2 (x : FVec F S8x20000x4 .f32) : FVec F S8x20000 .f32 := shapeCast S8x20000 (extractStridedSlice S8x20000x1 ![0, 0, 2] x slices_S8x20000x4_S8x20000x1_0_0_2) shapeCasts_S8x20000x1_S8x20000
def col3 (x : FVec F S8x20000x4 .f32) : FVec F S8x20000 .f32 := shapeCast S8x20000 (extractStridedSlice S8x20000x1 ![0, 0, 3] x slices_S8x20000x4_S8x20000x1_0_0_3) shapeCasts_S8x20000x1_S8x20000

/-- One value per image, at every position. -/
def spread (v : FVec F S8 .f32) : FVec F S8x20000 .f32 :=
  broadcastInDim S8x20000 ![0, 1] bcast_S8x1_S8x20000_0_1 (broadcastInDim S8x1 ![0] bcast_S8_S8x1_0 v)

/-- Zero everywhere. -/
def zeros : FVec F S8x20000 .f32 := broadcastInDim S8x20000 ![] bcast_S_S8x20000 (constant S_ .f32 0x00000000#32)
def zeros8 : FVec F S8 .f32 := broadcastInDim S8 ![] bcast_S_S8 (constant S_ .f32 0x00000000#32)

/-- The intersection of every box with the chosen one. -/
def interOf (bs : FVec F S8x20000x4 .f32) (box : FVec F S8x4 .f32) : FVec F S8x20000 .f32 :=
  mulf (maximumf (subf (minimumf (spread (bcol2 box)) (col2 bs)) (maximumf (spread (bcol0 box)) (col0 bs))) zeros)
    (maximumf (subf (minimumf (spread (bcol3 box)) (col3 bs)) (maximumf (spread (bcol1 box)) (col1 bs))) zeros)

/-- The union of every box with the chosen one, given the intersection. -/
def unionOf (bs : FVec F S8x20000x4 .f32) (box : FVec F S8x4 .f32) (inter : FVec F S8x20000 .f32) : FVec F S8x20000 .f32 :=
  subf (addf (spread (mulf (maximumf (subf (bcol2 box) (bcol0 box)) zeros8) (maximumf (subf (bcol3 box) (bcol1 box)) zeros8)))
    (mulf (maximumf (subf (col2 bs) (col0 bs)) zeros) (maximumf (subf (col3 bs) (col1 bs)) zeros))) inter

/-- The overlap: intersection over union, or zero where the union is not positive. -/
def whereOf (p : IVec S8x20000 1) (q : FVec F S8x20000 .f32) (z : FVec F S_ .f32) : FVec F S8x20000 .f32 :=
  select p q (broadcastInDim S8x20000 ![1] bcast_S20000_S8x20000_1 (broadcastInDim S20000 ![] bcast_S_S20000 z))

/-- The positions suppressed if the chosen one was available: those before, those that overlap it, and itself. -/
def hitOf (iou : FVec F S8x20000 .f32) (sup : IVec S8x20000 1) (at_ : IVec S20000 32) (i : IVec S8 32) : IVec S8x20000 1 :=
  ori (ori sup (cmpf .ogt iou (broadcastInDim S8x20000 ![] bcast_S_S8x20000 (constant S_ .f32 0x3F000000#32))))
    (cmpi .eq (broadcastInDim S8x20000 ![0, 1] bcast_S1x20000_S8x20000_0_1 (broadcastInDim S1x20000 ![1] bcast_S20000_S1x20000_1 at_))
      (broadcastInDim S8x20000 ![0, 1] bcast_S8x1_S8x20000_0_1 (broadcastInDim S8x1 ![0] bcast_S8_S8x1_0 i)))

/-- One value per image where the chosen position was available, the other elsewhere. -/
def keepOf (taken : IVec S8 1) (hit sup : IVec S8x20000 1) : IVec S8x20000 1 :=
  select (broadcastInDim S8x20000 ![0] bcast_S8_S8x20000_0 taken) hit sup

/-- Row `k` replaced. -/
def setRow {w : Nat} (x : IVec S300x8 w) (u : IVec S8 w) (k : IVec S_ 32) : IVec S300x8 w :=
  Host.dynamicUpdateSlice x (broadcastInDim S1x8 ![1] bcast_S8_S1x8_1 u)
    (fun a => ((![k, constantI S_ 32 0#32] : Fin 2 → IVec S_ 32) a (Shape.Idx.first h_S_)).toInt) updateFits_S300x8_S1x8

/-! ## What each stretch computes -/

variable (V : Valuation τ sig (Elt F))

theorem avail_v28 : after availOps V (Proc.devRef .tc main_while0b_v28) = noti (V (Proc.devRef .tc main_v16_3)) := by
  after_results

theorem argmax_v29 : after argmaxOps V (Proc.devRef .tc main_while0b_v29) = firstOf (V (Proc.devRef .tc main_while0b_v28)) := by
  after_results_entrywise [cast_eq]

theorem take_v30 : after takeOps V (Proc.devRef .tc main_while0b_v30)
    = takenOf (V (Proc.devRef .tc main_while0b_v28)) (V (Proc.devRef .tc main_while0b_v29)) := by
  after_results_entrywise [cast_eq]

theorem takeBox_v31 : after takeBoxOps V (Proc.devRef .tc main_while0b_v31)
    = boxAt (V (Proc.devRef .tc main_v16_0)) (V (Proc.devRef .tc main_while0b_v29)) := by
  after_results_entrywise [cast_eq]

theorem inter_v66 : after interOps V (Proc.devRef .tc main_while0b_v66)
    = interOf (V (Proc.devRef .tc main_v16_0)) (V (Proc.devRef .tc main_while0b_v31)) := by
  after_results
  rfl

theorem iou_v102 : after iouOps V (Proc.devRef .tc main_while0b_v102)
    = cmpf .ogt (unionOf (V (Proc.devRef .tc main_v16_0)) (V (Proc.devRef .tc main_while0b_v31)) (V (Proc.devRef .tc main_while0b_v66))) zeros := by
  after_results
  rfl

theorem iou_v103 : after iouOps V (Proc.devRef .tc main_while0b_v103)
    = Host.divf (V (Proc.devRef .tc main_while0b_v66))
      (unionOf (V (Proc.devRef .tc main_v16_0)) (V (Proc.devRef .tc main_while0b_v31)) (V (Proc.devRef .tc main_while0b_v66))) := by
  after_results
  rfl

theorem iou_zero : after iouOps V (Proc.devRef .tc main_while0b_cst_19) = constant S_ .f32 0x00000000#32 := by
  after_results

theorem where_v104 : after whereOps V (Proc.devRef .tc main_while0b_v104)
    = whereOf (V (Proc.devRef .tc main_while0b_v102)) (V (Proc.devRef .tc main_while0b_v103)) (V (Proc.devRef .tc main_while0b_cst_19)) := by
  after_results_entrywise [cast_eq]

theorem hit_v113 : after hitOps V (Proc.devRef .tc main_while0b_v113)
    = hitOf (V (Proc.devRef .tc main_while0b_v104)) (V (Proc.devRef .tc main_v16_3)) (V (Proc.devRef .tc main_v16_1))
      (V (Proc.devRef .tc main_while0b_v29)) := by
  after_results
  rfl

theorem keep_v114 : after keepOps V (Proc.devRef .tc main_while0b_v114)
    = keepOf (V (Proc.devRef .tc main_while0b_v30)) (V (Proc.devRef .tc main_while0b_v113)) (V (Proc.devRef .tc main_v16_3)) := by
  after_results_entrywise [cast_eq]

theorem slot_v115 : after slotOps V (Proc.devRef .tc main_while0b_v115)
    = setRow (V (Proc.devRef .tc main_v16_4)) (V (Proc.devRef .tc main_while0b_v29)) (V (Proc.devRef .tc main_v16_2)) := by
  after_results_entrywise [cast_eq]

theorem flag_v116 : after flagOps V (Proc.devRef .tc main_while0b_v116)
    = setRow (V (Proc.devRef .tc main_v16_5)) (V (Proc.devRef .tc main_while0b_v30)) (V (Proc.devRef .tc main_v16_2)) := by
  after_results_entrywise [cast_eq]

theorem next_v16_3 : after nextOps V (Proc.devRef .tc main_v16_3) = V (Proc.devRef .tc main_while0b_v114) := by
  after_results
  rfl
theorem next_v16_4 : after nextOps V (Proc.devRef .tc main_v16_4) = V (Proc.devRef .tc main_while0b_v115) := by
  after_results
  rfl
theorem next_v16_5 : after nextOps V (Proc.devRef .tc main_v16_5) = V (Proc.devRef .tc main_while0b_v116) := by
  after_results
  rfl

end Cert.ReferenceIdeal.Own

end
-- ==== Proof.RefFold.lean ====
/-
The reference's loop and its result as functions of the argument arrays: the suppressed positions before every trip, the
slots they fill, and the boxes gathered from the slots.
-/
module

public import proofs.«01_k».proof.Proof.RefTrip

@[expose] public section

set_option maxRecDepth 16384

noncomputable section

namespace Cert.ReferenceIdeal.Own

open Cert.ReferenceIdeal Cert.ReferenceIdeal.Gen
open Idealize.ShloMosaic Idealize.ShloMosaic.TcCoe Idealize.ShloMosaic.Tactic
open Idealize.SL.Sem
open Idealize.ShloMosaic.StableHlo

variable {F : FTy → Type} [FloatOps F]

/-! ## One trip -/

/-- The overlap of every box with the chosen one. -/
def overlapOf (bs : FVec F S8x20000x4 .f32) (box : FVec F S8x4 .f32) : FVec F S8x20000 .f32 :=
  whereOf (cmpf .ogt (unionOf bs box (interOf bs box)) zeros) (Host.divf (interOf bs box) (unionOf bs box (interOf bs box)))
    (constant S_ .f32 0x00000000#32)

/-- The suppressed positions after a trip. -/
def nextSup (bs : FVec F S8x20000x4 .f32) (at_ : IVec S20000 32) (sup : IVec S8x20000 1) : IVec S8x20000 1 :=
  keepOf (takenOf (noti sup) (firstOf (noti sup)))
    (hitOf (overlapOf bs (boxAt bs (firstOf (noti sup)))) sup at_ (firstOf (noti sup))) sup

section Trip

variable (V : Valuation τ sig (Elt F))

/-- What the stretch's list does not name stays. -/
theorem keep_avail {r : Ref sig .tc} (V : Valuation τ sig (Elt F)) (h : r ∉ availOps_W) : after availOps V (Proc.devRef .tc r) = V (Proc.devRef .tc r) := after_of_writes_sub _ V availOps_writes h
theorem keep_argmax {r : Ref sig .tc} (V : Valuation τ sig (Elt F)) (h : r ∉ argmaxOps_W) : after argmaxOps V (Proc.devRef .tc r) = V (Proc.devRef .tc r) := after_of_writes_sub _ V argmaxOps_writes h
theorem keep_take {r : Ref sig .tc} (V : Valuation τ sig (Elt F)) (h : r ∉ takeOps_W) : after takeOps V (Proc.devRef .tc r) = V (Proc.devRef .tc r) := after_of_writes_sub _ V takeOps_writes h
theorem keep_takeBox {r : Ref sig .tc} (V : Valuation τ sig (Elt F)) (h : r ∉ takeBoxOps_W) : after takeBoxOps V (Proc.devRef .tc r) = V (Proc.devRef .tc r) := after_of_writes_sub _ V takeBoxOps_writes h
theorem keep_inter {r : Ref sig .tc} (V : Valuation τ sig (Elt F)) (h : r ∉ interOps_W) : after interOps V (Proc.devRef .tc r) = V (Proc.devRef .tc r) := after_of_writes_sub _ V interOps_writes h
theorem keep_iou {r : Ref sig .tc} (V : Valuation τ sig (Elt F)) (h : r ∉ iouOps_W) : after iouOps V (Proc.devRef .tc r) = V (Proc.devRef .tc r) := after_of_writes_sub _ V iouOps_writes h
theorem keep_where {r : Ref sig .tc} (V : Valuation τ sig (Elt F)) (h : r ∉ whereOps_W) : after whereOps V (Proc.devRef .tc r) = V (Proc.devRef .tc r) := after_of_writes_sub _ V whereOps_writes h
theorem keep_hit {r : Ref sig .tc} (V : Valuation τ sig (Elt F)) (h : r ∉ hitOps_W) : after hitOps V (Proc.devRef .tc r) = V (Proc.devRef .tc r) := after_of_writes_sub _ V hitOps_writes h
theorem keep_keep {r : Ref sig .tc} (V : Valuation τ sig (Elt F)) (h : r ∉ keepOps_W) : after keepOps V (Proc.devRef .tc r) = V (Proc.devRef .tc r) := after_of_writes_sub _ V keepOps_writes h
theorem keep_slot {r : Ref sig .tc} (V : Valuation τ sig (Elt F)) (h : r ∉ slotOps_W) : after slotOps V (Proc.devRef .tc r) = V (Proc.devRef .tc r) := after_of_writes_sub _ V slotOps_writes h
theorem keep_flag {r : Ref sig .tc} (V : Valuation τ sig (Elt F)) (h : r ∉ flagOps_W) : after flagOps V (Proc.devRef .tc r) = V (Proc.devRef .tc r) := after_of_writes_sub _ V flagOps_writes h

/-- The buffers up to the chosen box. -/
def V3 : Valuation τ sig (Elt F) := after takeBoxOps (after takeOps (after argmaxOps (after availOps V)))

theorem V3_v28 : V3 V (Proc.devRef .tc main_while0b_v28) = noti (V (Proc.devRef .tc main_v16_3)) := by
  unfold V3
  rw [keep_takeBox _ (by decide +kernel), keep_take _ (by decide +kernel), keep_argmax _ (by decide +kernel), avail_v28]

theorem V3_v29 : V3 V (Proc.devRef .tc main_while0b_v29) = firstOf (noti (V (Proc.devRef .tc main_v16_3))) := by
  unfold V3
  rw [keep_takeBox _ (by decide +kernel), keep_take _ (by decide +kernel), argmax_v29, avail_v28]

theorem V3_v30 : V3 V (Proc.devRef .tc main_while0b_v30)
    = takenOf (noti (V (Proc.devRef .tc main_v16_3))) (firstOf (noti (V (Proc.devRef .tc main_v16_3)))) := by
  unfold V3
  rw [keep_takeBox _ (by decide +kernel), take_v30, argmax_v29, keep_argmax _ (by decide +kernel), avail_v28]

theorem V3_v31 : V3 V (Proc.devRef .tc main_while0b_v31)
    = boxAt (V (Proc.devRef .tc main_v16_0)) (firstOf (noti (V (Proc.devRef .tc main_v16_3)))) := by
  unfold V3
  rw [takeBox_v31, keep_take _ (by decide +kernel), keep_take _ (by decide +kernel), argmax_v29, avail_v28,
    keep_argmax _ (by decide +kernel), keep_avail _ (by decide +kernel)]

theorem V3_keeps {r : Ref sig .tc} (h₁ : r ∉ availOps_W) (h₂ : r ∉ argmaxOps_W) (h₃ : r ∉ takeOps_W) (h₄ : r ∉ takeBoxOps_W) :
    V3 V (Proc.devRef .tc r) = V (Proc.devRef .tc r) := by
  unfold V3
  rw [keep_takeBox _ h₄, keep_take _ h₃, keep_argmax _ h₂, keep_avail _ h₁]

/-- The buffers up to the overlap. -/
def V6 : Valuation τ sig (Elt F) := after whereOps (after iouOps (after interOps (V3 V)))

theorem V6_keeps {r : Ref sig .tc} (h₁ : r ∉ interOps_W) (h₂ : r ∉ iouOps_W) (h₃ : r ∉ whereOps_W) :
    V6 V (Proc.devRef .tc r) = V3 V (Proc.devRef .tc r) := by
  unfold V6
  rw [keep_where _ h₃, keep_iou _ h₂, keep_inter _ h₁]

theorem V6_v104 : V6 V (Proc.devRef .tc main_while0b_v104)
    = overlapOf (V (Proc.devRef .tc main_v16_0)) (boxAt (V (Proc.devRef .tc main_v16_0)) (firstOf (noti (V (Proc.devRef .tc main_v16_3))))) := by
  unfold V6
  rw [where_v104, iou_v102, iou_v103, iou_zero, inter_v66, keep_inter (r := main_v16_0) _ (by decide +kernel),
    keep_inter (r := main_while0b_v31) _ (by decide +kernel), V3_v31,
    V3_keeps (r := main_v16_0) V (by decide +kernel) (by decide +kernel) (by decide +kernel) (by decide +kernel)]
  rfl

/-- The suppressed positions after the body. -/
theorem body_v16_3 : afterL bodyI V (Proc.devRef .tc main_v16_3)
    = nextSup (V (Proc.devRef .tc main_v16_0)) (V (Proc.devRef .tc main_v16_1)) (V (Proc.devRef .tc main_v16_3)) := by
  rw [show afterL bodyI V = after nextOps (after flagOps (after slotOps (after keepOps (after hitOps (V6 V))))) from rfl,
    next_v16_3, keep_flag _ (by decide +kernel), keep_slot _ (by decide +kernel), keep_v114, hit_v113,
    keep_hit (r := main_while0b_v30) _ (by decide +kernel), keep_hit (r := main_v16_3) _ (by decide +kernel), V6_v104]
  rw [V6_keeps (r := main_v16_1) V (by decide +kernel) (by decide +kernel) (by decide +kernel),
    V6_keeps (r := main_v16_3) V (by decide +kernel) (by decide +kernel) (by decide +kernel),
    V6_keeps (r := main_while0b_v29) V (by decide +kernel) (by decide +kernel) (by decide +kernel),
    V6_keeps (r := main_while0b_v30) V (by decide +kernel) (by decide +kernel) (by decide +kernel),
    V3_v29, V3_v30,
    V3_keeps (r := main_v16_1) V (by decide +kernel) (by decide +kernel) (by decide +kernel) (by decide +kernel),
    V3_keeps (r := main_v16_3) V (by decide +kernel) (by decide +kernel) (by decide +kernel) (by decide +kernel)]
  rfl

/-- The slots after the body. -/
theorem body_v16_4 : afterL bodyI V (Proc.devRef .tc main_v16_4)
    = setRow (V (Proc.devRef .tc main_v16_4)) (firstOf (noti (V (Proc.devRef .tc main_v16_3)))) (V (Proc.devRef .tc main_v16_2)) := by
  rw [show afterL bodyI V = after nextOps (after flagOps (after slotOps (after keepOps (after hitOps (V6 V))))) from rfl,
    next_v16_4, keep_flag _ (by decide +kernel), slot_v115,
    keep_keep (r := main_v16_4) _ (by decide +kernel), keep_keep (r := main_v16_2) _ (by decide +kernel), keep_keep (r := main_while0b_v29) _ (by decide +kernel),
    keep_hit (r := main_v16_4) _ (by decide +kernel), keep_hit (r := main_v16_2) _ (by decide +kernel), keep_hit (r := main_while0b_v29) _ (by decide +kernel)]
  rw [V6_keeps (r := main_v16_4) V (by decide +kernel) (by decide +kernel) (by decide +kernel),
    V6_keeps (r := main_v16_2) V (by decide +kernel) (by decide +kernel) (by decide +kernel),
    V6_keeps (r := main_while0b_v29) V (by decide +kernel) (by decide +kernel) (by decide +kernel), V3_v29,
    V3_keeps (r := main_v16_4) V (by decide +kernel) (by decide +kernel) (by decide +kernel) (by decide +kernel),
    V3_keeps (r := main_v16_2) V (by decide +kernel) (by decide +kernel) (by decide +kernel) (by decide +kernel)]

/-- Whether each slot was filled, after the body. -/
theorem body_v16_5 : afterL bodyI V (Proc.devRef .tc main_v16_5)
    = setRow (V (Proc.devRef .tc main_v16_5)) (takenOf (noti (V (Proc.devRef .tc main_v16_3))) (firstOf (noti (V (Proc.devRef .tc main_v16_3)))))
      (V (Proc.devRef .tc main_v16_2)) := by
  rw [show afterL bodyI V = after nextOps (after flagOps (after slotOps (after keepOps (after hitOps (V6 V))))) from rfl,
    next_v16_5, flag_v116,
    keep_slot (r := main_v16_5) _ (by decide +kernel), keep_slot (r := main_v16_2) _ (by decide +kernel), keep_slot (r := main_while0b_v30) _ (by decide +kernel),
    keep_keep (r := main_v16_5) _ (by decide +kernel), keep_keep (r := main_v16_2) _ (by decide +kernel), keep_keep (r := main_while0b_v30) _ (by decide +kernel),
    keep_hit (r := main_v16_5) _ (by decide +kernel), keep_hit (r := main_v16_2) _ (by decide +kernel), keep_hit (r := main_while0b_v30) _ (by decide +kernel)]
  rw [V6_keeps (r := main_v16_5) V (by decide +kernel) (by decide +kernel) (by decide +kernel),
    V6_keeps (r := main_v16_2) V (by decide +kernel) (by decide +kernel) (by decide +kernel),
    V6_keeps (r := main_while0b_v30) V (by decide +kernel) (by decide +kernel) (by decide +kernel), V3_v30,
    V3_keeps (r := main_v16_5) V (by decide +kernel) (by decide +kernel) (by decide +kernel) (by decide +kernel),
    V3_keeps (r := main_v16_2) V (by decide +kernel) (by decide +kernel) (by decide +kernel) (by decide +kernel)]

end Trip

/-! ## The loop's start -/

/-- The stable order of the negated scores. -/
def orderOf (x : FVec F S8x20000x2 .f32) : IVec S8x20000 32 :=
  (Host.sort2 S8x20000 1 comparator_f32_i32_d1
    (Host.negf (shapeCast S8x20000 (extractStridedSlice S8x20000x1 ![0, 0, 1] x slices_S8x20000x2_S8x20000x1_0_0_1) shapeCasts_S8x20000x1_S8x20000))
    (broadcastInDim S8x20000 ![1] bcast_S20000_S8x20000_1 (iotaInDim S20000 32 0))).2

/-- An index counted from the end where it is negative. -/
def wrapped (i : IVec S8x20000 32) : IVec S8x20000 32 :=
  select (cmpi .slt i (broadcastInDim S8x20000 ![] bcast_S_S8x20000 (constantI S_ 32 0#32)))
    (addi i (broadcastInDim S8x20000 ![] bcast_S_S8x20000 (constantI S_ 32 20000#32))) i

/-- The boxes in sorted order. -/
def sortedBoxes (x : FVec F S8x20000x2 .f32) (y : FVec F S8x20000x4 .f32) : FVec F S8x20000x4 .f32 :=
  Host.gather gather_S8x20000x4_S8x20000x1_S8x20000x4_2_1_0_0_1_2_114 y
    (broadcastInDim S8x20000x1 ![0, 1] bcast_S8x20000_S8x20000x1_0_1 (wrapped (orderOf x)))

/-- The positions. -/
def posn : IVec S20000 32 := iotaInDim S20000 32 0

/-- Nothing suppressed. -/
def sup0 : IVec S8x20000 1 :=
  broadcastInDim S8x20000 ![1] bcast_S20000_S8x20000_1 (broadcastInDim S20000 ![] bcast_S_S20000 (constantI S_ 1 0#1))
def slot0 : IVec S300x8 32 := broadcastInDim S300x8 ![] bcast_S_S300x8 (constantI S_ 32 0#32)
def flag0 : IVec S300x8 1 := broadcastInDim S300x8 ![] bcast_S_S300x8 (constantI S_ 1 0#1)

/-- The suppressed positions before trip `k`. -/
def supAt (bs : FVec F S8x20000x4 .f32) : ℕ → IVec S8x20000 1
  | 0 => sup0
  | k + 1 => nextSup bs posn (supAt bs k)

/-- The slots before trip `k`. -/
def slotAt (bs : FVec F S8x20000x4 .f32) : ℕ → IVec S300x8 32
  | 0 => slot0
  | k + 1 => setRow (slotAt bs k) (firstOf (noti (supAt bs k))) (fun _ => Scf.iv 0#32 1#32 k)

/-- Whether each slot was filled, before trip `k`. -/
def flagAt (bs : FVec F S8x20000x4 .f32) : ℕ → IVec S300x8 1
  | 0 => flag0
  | k + 1 => setRow (flagAt bs k) (takenOf (noti (supAt bs k)) (firstOf (noti (supAt bs k)))) (fun _ => Scf.iv 0#32 1#32 k)

/-- The boxes of the slots, and minus one where a slot was not filled. -/
def picked (bs : FVec F S8x20000x4 .f32) (slot : IVec S300x8 32) (flag : IVec S300x8 1) : FVec F S8x300x4 .f32 :=
  select (broadcastInDim S8x300x4 ![0, 1, 2] bcast_S8x300x1_S8x300x4_0_1_2
      (broadcastInDim S8x300x1 ![0, 1] bcast_S8x300_S8x300x1_0_1 (transpose S8x300 [1, 0] flag transposes_S300x8_S8x300_1_0)))
    (Host.gather gather_S8x20000x4_S8x300x1_S8x300x4_2_1_0_0_1_2_114 bs
      (broadcastInDim S8x300x1 ![0, 1] bcast_S8x300_S8x300x1_0_1 (transpose S8x300 [1, 0]
        (select (cmpi .slt slot (broadcastInDim S300x8 ![] bcast_S_S300x8 (constantI S_ 32 0#32)))
          (addi slot (broadcastInDim S300x8 ![] bcast_S_S300x8 (constantI S_ 32 20000#32))) slot) transposes_S300x8_S8x300_1_0)))
    (broadcastInDim S8x300x4 ![1, 2] bcast_S300x4_S8x300x4_1_2 (broadcastInDim S300x4 ![] bcast_S_S300x4 (constant S_ .f32 0xBF800000#32)))

variable (m : (ℓ : Loc nD τ sig) → Buf (Elt F) ℓ) (ρ : Dev nD → PrngReg)

theorem score_v2 (V : Valuation τ sig (Elt F)) : after scoreOps V (Proc.devRef .tc main_v2)
    = Host.negf (shapeCast S8x20000 (extractStridedSlice S8x20000x1 ![0, 0, 1] (V (Proc.devRef .tc main_arg0)) slices_S8x20000x2_S8x20000x1_0_0_1) shapeCasts_S8x20000x1_S8x20000) := by
  after_results
  rfl

theorem sort_v3 (V : Valuation τ sig (Elt F)) : after sortOps V (Proc.devRef .tc main_v3)
    = (Host.sort2 S8x20000 1 comparator_f32_i32_d1 (V (Proc.devRef .tc main_v2))
        (broadcastInDim S8x20000 ![1] bcast_S20000_S8x20000_1 (iotaInDim S20000 32 0))).2 := by
  after_results_entrywise [cast_eq]

theorem sorted_v16_0 (V : Valuation τ sig (Elt F)) : after sortedOps V (Proc.devRef .tc main_v16_0)
    = Host.gather gather_S8x20000x4_S8x20000x1_S8x20000x4_2_1_0_0_1_2_114 (V (Proc.devRef .tc main_arg1))
        (broadcastInDim S8x20000x1 ![0, 1] bcast_S8x20000_S8x20000x1_0_1 (wrapped (V (Proc.devRef .tc main_v3)))) := by
  after_results
  rfl

theorem sorted_v10 (V : Valuation τ sig (Elt F)) : after sortedOps V (Proc.devRef .tc main_v10)
    = Host.gather gather_S8x20000x4_S8x20000x1_S8x20000x4_2_1_0_0_1_2_114 (V (Proc.devRef .tc main_arg1))
        (broadcastInDim S8x20000x1 ![0, 1] bcast_S8x20000_S8x20000x1_0_1 (wrapped (V (Proc.devRef .tc main_v3)))) := by
  after_results
  rfl

theorem sorted_v16_1 (V : Valuation τ sig (Elt F)) : after sortedOps V (Proc.devRef .tc main_v16_1) = posn := by
  after_results
  rfl
theorem sorted_v16_3 (V : Valuation τ sig (Elt F)) : after sortedOps V (Proc.devRef .tc main_v16_3) = sup0 := by
  after_results
  rfl
theorem sorted_v16_4 (V : Valuation τ sig (Elt F)) : after sortedOps V (Proc.devRef .tc main_v16_4) = slot0 := by
  after_results
  rfl
theorem sorted_v16_5 (V : Valuation τ sig (Elt F)) : after sortedOps V (Proc.devRef .tc main_v16_5) = flag0 := by
  after_results
  rfl

/-- The boxes in sorted order, of the launch's arrays. -/
abbrev bsOf (c : Dev nD) : FVec F S8x20000x4 .f32 :=
  sortedBoxes (m ((c.tc : Thread nD τ).loc main_arg0)) (m ((c.tc : Thread nD τ).loc main_arg1))

theorem entry_order (c : Dev nD) : after sortOps (after scoreOps (launchContents m c)) (Proc.devRef .tc main_v3)
    = orderOf (m ((c.tc : Thread nD τ).loc main_arg0)) := by
  rw [sort_v3, score_v2]; rfl

theorem entry_arg1 (c : Dev nD) : after sortOps (after scoreOps (launchContents m c)) (Proc.devRef .tc main_arg1)
    = m ((c.tc : Thread nD τ).loc main_arg1) := by
  rw [after_of_writes_sub sortOps _ sortOps_writes (by decide +kernel), after_of_writes_sub scoreOps _ scoreOps_writes (by decide +kernel)]

theorem entry_v16_0 (c : Dev nD) : entryContents preI m c (Proc.devRef .tc main_v16_0) = bsOf m c := by
  rw [show entryContents preI m c = after sortedOps (after sortOps (after scoreOps (launchContents m c))) from rfl,
    sorted_v16_0, entry_order, entry_arg1]; rfl
theorem entry_v10 (c : Dev nD) : entryContents preI m c (Proc.devRef .tc main_v10) = bsOf m c := by
  rw [show entryContents preI m c = after sortedOps (after sortOps (after scoreOps (launchContents m c))) from rfl,
    sorted_v10, entry_order, entry_arg1]; rfl
theorem entry_v16_1 (c : Dev nD) : entryContents preI m c (Proc.devRef .tc main_v16_1) = posn := by
  rw [show entryContents preI m c = after sortedOps (after sortOps (after scoreOps (launchContents m c))) from rfl, sorted_v16_1]
theorem entry_v16_3 (c : Dev nD) : entryContents preI m c (Proc.devRef .tc main_v16_3) = sup0 := by
  rw [show entryContents preI m c = after sortedOps (after sortOps (after scoreOps (launchContents m c))) from rfl, sorted_v16_3]
theorem entry_v16_4 (c : Dev nD) : entryContents preI m c (Proc.devRef .tc main_v16_4) = slot0 := by
  rw [show entryContents preI m c = after sortedOps (after sortOps (after scoreOps (launchContents m c))) from rfl, sorted_v16_4]
theorem entry_v16_5 (c : Dev nD) : entryContents preI m c (Proc.devRef .tc main_v16_5) = flag0 := by
  rw [show entryContents preI m c = after sortedOps (after sortOps (after scoreOps (launchContents m c))) from rfl, sorted_v16_5]

/-! ## The carried buffers before every trip -/

theorem atK_v16_0 (k : ℕ) (c : Dev nD) : atK m k c (Proc.devRef .tc main_v16_0) = bsOf m c := by
  rw [atK_keeps m (by decide +kernel) (by decide +kernel), entry_v16_0]
theorem atK_v10 (k : ℕ) (c : Dev nD) : atK m k c (Proc.devRef .tc main_v10) = bsOf m c := by
  rw [atK_keeps m (by decide +kernel) (by decide +kernel), entry_v10]
theorem atK_v16_1 (k : ℕ) (c : Dev nD) : atK m k c (Proc.devRef .tc main_v16_1) = posn := by
  rw [atK_keeps m (by decide +kernel) (by decide +kernel), entry_v16_1]

theorem atK_v16_3 (c : Dev nD) : ∀ k, atK m k c (Proc.devRef .tc main_v16_3) = supAt (bsOf m c) k
  | 0 => entry_v16_3 m c
  | k + 1 => by
    rw [show atK m (k + 1) c = afterL bodyI (after condOps (atK m k c)) from rfl, body_v16_3,
      cond_keeps (r := main_v16_0) (by decide +kernel), cond_keeps (r := main_v16_1) (by decide +kernel),
      cond_keeps (r := main_v16_3) (by decide +kernel), atK_v16_0, atK_v16_1, atK_v16_3 c k]
    rfl

theorem atK_v16_4 (c : Dev nD) : ∀ k, atK m k c (Proc.devRef .tc main_v16_4) = slotAt (bsOf m c) k
  | 0 => entry_v16_4 m c
  | k + 1 => by
    rw [show atK m (k + 1) c = afterL bodyI (after condOps (atK m k c)) from rfl, body_v16_4,
      cond_keeps (r := main_v16_2) (by decide +kernel), cond_keeps (r := main_v16_3) (by decide +kernel),
      cond_keeps (r := main_v16_4) (by decide +kernel), atK_ctr, atK_v16_3, atK_v16_4 c k]
    rfl

theorem atK_v16_5 (c : Dev nD) : ∀ k, atK m k c (Proc.devRef .tc main_v16_5) = flagAt (bsOf m c) k
  | 0 => entry_v16_5 m c
  | k + 1 => by
    rw [show atK m (k + 1) c = afterL bodyI (after condOps (atK m k c)) from rfl, body_v16_5,
      cond_keeps (r := main_v16_2) (by decide +kernel), cond_keeps (r := main_v16_3) (by decide +kernel),
      cond_keeps (r := main_v16_5) (by decide +kernel), atK_ctr, atK_v16_3, atK_v16_5 c k]
    rfl

/-! ## The result -/

theorem tail_v27 (V : Valuation τ sig (Elt F)) : after fillOps (after tailOps V) (Proc.devRef .tc main_v27)
    = picked (V (Proc.devRef .tc main_v10)) (V (Proc.devRef .tc main_v16_4)) (V (Proc.devRef .tc main_v16_5)) := by
  have h26 : after tailOps V (Proc.devRef .tc main_v26) = broadcastInDim S8x300x1 ![0, 1] bcast_S8x300_S8x300x1_0_1
      (transpose S8x300 [1, 0] (V (Proc.devRef .tc main_v16_5)) transposes_S300x8_S8x300_1_0) := by
    after_results
    try rfl
  have h24 : after tailOps V (Proc.devRef .tc main_v24) = Host.gather gather_S8x20000x4_S8x300x1_S8x300x4_2_1_0_0_1_2_114 (V (Proc.devRef .tc main_v10))
      (broadcastInDim S8x300x1 ![0, 1] bcast_S8x300_S8x300x1_0_1 (transpose S8x300 [1, 0]
        (select (cmpi .slt (V (Proc.devRef .tc main_v16_4)) (broadcastInDim S300x8 ![] bcast_S_S300x8 (constantI S_ 32 0#32)))
          (addi (V (Proc.devRef .tc main_v16_4)) (broadcastInDim S300x8 ![] bcast_S_S300x8 (constantI S_ 32 20000#32))) (V (Proc.devRef .tc main_v16_4))) transposes_S300x8_S8x300_1_0)) := by
    after_results
    try rfl
  have hc : after tailOps V (Proc.devRef .tc main_cst) = constant S_ .f32 0xBF800000#32 := by
    after_results
    try rfl
  have h : ∀ V' : Valuation τ sig (Elt F), after fillOps V' (Proc.devRef .tc main_v27)
      = select (broadcastInDim S8x300x4 ![0, 1, 2] bcast_S8x300x1_S8x300x4_0_1_2 (V' (Proc.devRef .tc main_v26)))
          (V' (Proc.devRef .tc main_v24))
          (broadcastInDim S8x300x4 ![1, 2] bcast_S300x4_S8x300x4_1_2 (broadcastInDim S300x4 ![] bcast_S_S300x4 (V' (Proc.devRef .tc main_cst)))) := by
    intro V'
    after_results_entrywise [cast_eq]
    try rfl
  rw [h, h26, h24, hc]
  rfl

/-- The reference's result, of the launch's arrays. -/
def resultOf (x : FVec F S8x20000x2 .f32) (y : FVec F S8x20000x4 .f32) : FVec F S8x300x4 .f32 :=
  picked (sortedBoxes x y) (slotAt (sortedBoxes x y) 300) (flagAt (sortedBoxes x y) 300)

theorem final_v27 (c : Dev nD) : finalContents condOps preI bodyI postI 300 m c (Proc.devRef .tc main_v27)
    = resultOf (m ((c.tc : Thread nD τ).loc main_arg0)) (m ((c.tc : Thread nD τ).loc main_arg1)) := by
  rw [show finalContents condOps preI bodyI postI 300 m c = after fillOps (after tailOps (after condOps (atK m 300 c))) from rfl,
    tail_v27, cond_keeps (r := main_v10) (by decide +kernel), cond_keeps (r := main_v16_4) (by decide +kernel),
    cond_keeps (r := main_v16_5) (by decide +kernel), atK_v10, atK_v16_4, atK_v16_5]
  rfl

/-- The value the reference leaves in its result array. -/
theorem value : θ_run (defs (F := F)) (onTc (τ := τ) (main (F := F))) ⟨m, fun _ => 0, ρ⟩ (fun r => ∀ c : Dev nD,
      r.2.mem ((c.tc : Thread nD τ).loc main_v27)
        = resultOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (final_v27 m c), (h c).2⟩) (run_value m ρ)

end Cert.ReferenceIdeal.Own

end
-- ==== Proof.RefGather.lean ====
/-
The reference's gathers read at an element: the operand's row, of the same image, that the index array names.
-/
module

public import proofs.«01_k».proof.Proof.RefFold
public import proofs.«01_k».proof.Proof.Overlap

@[expose] public section

noncomputable section

namespace Cert.ReferenceIdeal.Own

open Idealize.ShloMosaic
open Cert.ReferenceIdeal Cert.ReferenceIdeal.Gen Cert.Nms

/-- A small word read as a signed number and clamped is the number. -/
theorem clamp_small {q : ℕ} (hq : q < 20000) : min (BitVec.ofNat 32 q).toInt.toNat 19999 = q := by
  have : (BitVec.ofNat 32 q).toInt = (q : Int) := by
    rw [BitVec.toInt_eq_toNat_of_lt] <;> rw [BitVec.toNat_ofNat, Nat.mod_eq_of_lt (by omega)]
    omega
  rw [this]; omega

/-- The gather of one entry per image. -/
theorem gather_entry {α : Type} (x : S8x20000.Idx → α) (idx : IVec S8x1 32) (e : Fin 8) {q : ℕ} (hq : q < 20000)
    (hv : idx (ix2 e 0) = BitVec.ofNat 32 q) :
    Host.gather gather_S8x20000_S8x1_S8_n_1_0_0_1_1_11 x idx (ix1 e) = x (ix2 e ⟨q, hq⟩) := by
  unfold Host.gather
  congr 1
  funext a
  refine Fin.ext ?_
  set d := gather_S8x20000_S8x1_S8_n_1_0_0_1_1_11
  show d.start (ix1 e) idx a + d.batchCoord (ix1 e) a + d.offCoord (ix1 e) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ d.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ d.startIndexMap from List.mem_singleton.mpr rfl)]
    have hsi : d.siIdx (ix1 e) ⟨List.idxOf (1 : Fin 2) d.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi, hv]
    exact clamp_small hq

/-- The gather of one row per image. -/
theorem gather_row {α : Type} (x : S8x20000x4.Idx → α) (idx : IVec S8x1 32) (e : Fin 8) (c : Fin 4) {q : ℕ} (hq : q < 20000)
    (hv : idx (ix2 e 0) = BitVec.ofNat 32 q) :
    Host.gather gather_S8x20000x4_S8x1_S8x4_1_1_0_0_1_1_114 x idx (ix2 e c) = x (ix3 e ⟨q, hq⟩ c) := by
  unfold Host.gather
  congr 1
  funext a
  refine Fin.ext ?_
  set d := gather_S8x20000x4_S8x1_S8x4_1_1_0_0_1_1_114
  show d.start (ix2 e c) idx a + d.batchCoord (ix2 e c) a + d.offCoord (ix2 e c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ d.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ d.startIndexMap from List.mem_singleton.mpr rfl)]
    have hsi : d.siIdx (ix2 e c) ⟨List.idxOf (1 : Fin 3) d.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi, hv]
    exact clamp_small hq
  · rw [GatherDims.batchCoord_eq_zero _ _ _ (fun h => absurd (List.mem_singleton.mp h) (by decide))]
    unfold GatherDims.start
    rw [dif_neg (show (2 : Fin 3) ∉ d.startIndexMap from fun h => absurd (List.mem_singleton.mp h) (by decide))]
    simp only [Nat.zero_add, Nat.add_zero]
    unfold GatherDims.offCoord
    rw [dif_pos (show (2 : Fin 3) ∈ d.sKept from (GatherDims.mem_sKept _ _).mpr ⟨fun h => absurd (List.mem_singleton.mp h) (by decide), fun h => absurd (List.mem_singleton.mp h) (by decide)⟩)]
    rfl

/-- The dimension numbers of a gather of `n` rows per image. -/
abbrev rowsDims (n : ℕ) (wf : GatherDims.WF S8x20000x4 ⟨3, ![8, n, 1]⟩ ⟨3, ![8, n, 4]⟩ [2] [1] [0] [1] [0] 2 ![1, 1, 4]) :
    GatherDims S8x20000x4 ⟨3, ![8, n, 1]⟩ ⟨3, ![8, n, 4]⟩ where
  offsetDims := [2]
  collapsedSliceDims := [1]
  operandBatchingDims := [0]
  startIndicesBatchingDims := [0]
  startIndexMap := [1]
  indexVectorDim := 2
  sliceSizes := ![1, 1, 4]
  wf := wf

/-- The gather of `n` rows per image. -/
theorem gather_rows {α : Type} (n : ℕ) (wf : GatherDims.WF S8x20000x4 ⟨3, ![8, n, 1]⟩ ⟨3, ![8, n, 4]⟩ [2] [1] [0] [1] [0] 2 ![1, 1, 4])
    (x : S8x20000x4.Idx → α) (idx : IVec ⟨3, ![8, n, 1]⟩ 32) (e : Fin 8) (k : Fin n) (c : Fin 4) {q : ℕ} (hq : q < 20000)
    (hv : idx (ix3 e k 0) = BitVec.ofNat 32 q) :
    Host.gather (rowsDims n wf) x idx (ix3 e k c) = x (ix3 e ⟨q, hq⟩ c) := by
  unfold Host.gather
  congr 1
  funext a
  refine Fin.ext ?_
  set d := rowsDims n wf
  show d.start (ix3 e k c) idx a + d.batchCoord (ix3 e k c) a + d.offCoord (ix3 e k c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ d.startIndexMap from List.mem_singleton.mpr rfl)]
    have hsi : d.siIdx (ix3 e k c) ⟨List.idxOf (1 : Fin 3) d.startIndexMap,
        List.idxOf_lt_length_iff.2 (List.mem_singleton.mpr rfl)⟩ = ix3 e k 0 := by
      funext b; refine Fin.ext ?_
      match b with
      | ⟨0, _⟩ => rfl
      | ⟨1, _⟩ => rfl
      | ⟨2, _⟩ => rfl
    rw [hsi, hv]
    exact clamp_small hq
  · rw [GatherDims.batchCoord_eq_zero _ _ _ (fun h => absurd (List.mem_singleton.mp h) (by decide))]
    unfold GatherDims.start
    rw [dif_neg (fun h => absurd (List.mem_singleton.mp h) (by decide))]
    simp only [Nat.zero_add, Nat.add_zero]
    unfold GatherDims.offCoord
    rw [dif_pos ((GatherDims.mem_sKept _ _).mpr ⟨fun h => absurd (List.mem_singleton.mp h) (by decide), fun h => absurd (List.mem_singleton.mp h) (by decide)⟩)]
    rfl

theorem gather_sorted {α : Type} (x : S8x20000x4.Idx → α) (idx : IVec S8x20000x1 32) (e : Fin 8) (k : Fin 20000) (c : Fin 4) {q : ℕ}
    (hq : q < 20000) (hv : idx (ix3 e k 0) = BitVec.ofNat 32 q) :
    Host.gather gather_S8x20000x4_S8x20000x1_S8x20000x4_2_1_0_0_1_2_114 x idx (ix3 e k c) = x (ix3 e ⟨q, hq⟩ c) :=
  gather_rows 20000 _ x idx e k c hq hv

theorem gather_slots {α : Type} (x : S8x20000x4.Idx → α) (idx : IVec S8x300x1 32) (e : Fin 8) (k : Fin 300) (c : Fin 4) {q : ℕ}
    (hq : q < 20000) (hv : idx (ix3 e k 0) = BitVec.ofNat 32 q) :
    Host.gather gather_S8x20000x4_S8x300x1_S8x300x4_2_1_0_0_1_2_114 x idx (ix3 e k c) = x (ix3 e ⟨q, hq⟩ c) :=
  gather_rows 300 _ x idx e k c hq hv

end Cert.ReferenceIdeal.Own

end
-- ==== Proof.StableOrder.lean ====
/-
The stable sort by a key: the sorted positions increase by key, and by position where the keys are equal.
-/
module

public import Idealize.ShloMosaic.Lib.SortFacts

@[expose] public section

noncomputable section

namespace Cert.Nms

open Idealize.ShloMosaic

variable {ι κ : Type} [LinearOrder ι] [LinearOrder κ]

/-- First by key, then by position. -/
def Before (key : ι → κ) (b c : ι) : Prop := key b < key c ∨ (key b = key c ∧ b < c)

/-- An insertion keeps the order if what is inserted lies before the whole list. -/
theorem pairwise_insert (key : ι → κ) (a : ι) (l : List ι) (ha : ∀ b ∈ l, a < b) (hl : l.Pairwise (Before key)) :
    (insertBefore (fun b c => decide (key b < key c)) a l).Pairwise (Before key) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore _ a l).mem_iff.mp hc) with rfl | hc'
      · exact Or.inl (of_decide_eq_true h)
      · exact hl.1 c hc'
    · rename_i h
      have hab : key a ≤ key b := not_lt.mp fun h' => h (decide_eq_true h')
      refine List.pairwise_cons.mpr ⟨fun c hc => ?_, List.pairwise_cons.mpr hl⟩
      have hbc : key b ≤ key c := by
        rcases List.mem_cons.mp hc with rfl | hc'
        · exact le_rfl
        · rcases hl.1 c hc' with h' | h'
          · exact h'.le
          · exact h'.1.le
      rcases (hab.trans hbc).lt_or_eq with h' | h'
      · exact Or.inl h'
      · exact Or.inr ⟨h', ha c hc⟩

/-- The stable sort of an increasing list. -/
theorem pairwise_stable (key : ι → κ) (l : List ι) (hl : l.Pairwise (· < ·)) :
    (stableSort (fun b c => decide (key b < key c)) l).Pairwise (Before key) := by
  induction l with
  | nil => exact List.Pairwise.nil
  | cons a l ih =>
    rw [List.pairwise_cons] at hl
    unfold stableSort
    exact pairwise_insert key a _ (fun b hb => hl.1 b ((perm_stableSort _ l).mem_iff.mp hb)) (ih hl.2)

/-- The sorted positions. -/
def sortedBy {n : ℕ} (key : Fin n → κ) : Fin n → Fin n := sortedFrom fun b c => decide (key b < key c)

theorem sortedBy_before {n : ℕ} (key : Fin n → κ) {i j : Fin n} (hij : i < j) :
    Before key (sortedBy key i) (sortedBy key j) := by
  have hp : ∀ a b : Fin (sortPositions n fun b c => decide (key b < key c)).length, a < b →
      Before key ((sortPositions n fun b c => decide (key b < key c)).get a) ((sortPositions n fun b c => decide (key b < key c)).get b) :=
    List.pairwise_iff_get.mp (pairwise_stable key (List.finRange n) (List.pairwise_lt_finRange n))
  unfold sortedBy sortedFrom
  exact hp _ _ (by simp only [Fin.lt_def, Fin.val_cast]; exact hij)

theorem sortedBy_injective {n : ℕ} (key : Fin n → κ) : Function.Injective (sortedBy key) := sortedFrom_injective _
theorem sortedBy_surjective {n : ℕ} (key : Fin n → κ) : Function.Surjective (sortedBy key) := sortedFrom_surjective _

end Cert.Nms

end
-- ==== Proof.RefSort.lean ====
/-
The boxes in sorted order over the extended reals: place `p` of image `e` holds the box at the `p`-th position of the
stable order by decreasing score.
-/
module

public import proofs.«01_k».proof.Proof.RefGather
public import proofs.«01_k».proof.Proof.StableOrder

@[expose] public section

noncomputable section

namespace Cert.ReferenceIdeal.Own

open Idealize.ShloMosaic
open Cert.ReferenceIdeal Cert.ReferenceIdeal.Gen Cert.Nms

variable (x : FVec Ideal S8x20000x2 .f32) (y : FVec Ideal S8x20000x4 .f32) (e : Fin 8)

/-- The sort's key. -/
def keyOf : Fin 20000 → EReal := fun k => -(x (ix3 e k 1) : EReal)

/-- The position in place `p`. -/
def perm : Fin 20000 → Fin 20000 := sortedBy (keyOf x e)

theorem cmp_read (l r : EReal × BitVec 32) : comparator_f32_i32_d1 (F := Ideal) l r = BitVec.ofBool (decide (l.1 < r.1)) := by
  have hz : ∀ a : EReal, (if a = 0 then 0 else a) = a := fun a => by by_cases h : a = 0 <;> simp [h]
  pointwise [comparator_f32_i32_d1]
  rw [if_neg (not_not.mpr rfl), if_neg (not_not.mpr rfl), hz, hz]
  rfl

/-- A sort of two arrays along the rows, read at an element of the second. -/
theorem sort2_read {R C : ℕ} {α β : Type} (cmp : α × β → α × β → BitVec 1) (u : (⟨2, ![R, C]⟩ : Shape).Idx → α)
    (v : (⟨2, ![R, C]⟩ : Shape).Idx → β) (e : Fin R) (p : Fin C) :
    (Host.sort2 ⟨2, ![R, C]⟩ 1 cmp u v).2 (ix2 e p)
      = v (ix2 e (sortedFrom (fun k k' => cmp (u (ix2 e k), v (ix2 e k)) (u (ix2 e k'), v (ix2 e k')) == 1#1) p)) := by
  have along : (fun k : Fin C => Shape.Idx.along (s := ⟨2, ![R, C]⟩) (ix2 e p) 1 k) = fun k => ix2 e k := by
    funext k a
    match a with
    | ⟨0, _⟩ => rfl
    | ⟨1, _⟩ => rfl
  unfold Host.sort2
  rw [dif_pos (show 1 < (⟨2, ![R, C]⟩ : Shape).rank from Nat.lt_succ_self 1)]
  exact congrArg (fun A : Fin C → (⟨2, ![R, C]⟩ : Shape).Idx =>
    v (A (sortedFrom (fun k k' => cmp (u (A k), v (A k)) (u (A k'), v (A k')) == 1#1) p))) along

theorem neg_read (k : Fin 20000) :
    (Host.negf (shapeCast S8x20000 (extractStridedSlice S8x20000x1 ![0, 0, 1] x slices_S8x20000x2_S8x20000x1_0_0_1) shapeCasts_S8x20000x1_S8x20000)
      : FVec Ideal S8x20000 .f32) (ix2 e k) = keyOf x e k := by
  pointwise [keyOf]

/-- The negated scores. -/
def negScores : FVec Ideal S8x20000 .f32 :=
  Host.negf (shapeCast S8x20000 (extractStridedSlice S8x20000x1 ![0, 0, 1] x slices_S8x20000x2_S8x20000x1_0_0_1) shapeCasts_S8x20000x1_S8x20000)

/-- The positions the sort carries along. -/
def posns : IVec S8x20000 32 := broadcastInDim S8x20000 ![1] bcast_S20000_S8x20000_1 (iotaInDim S20000 32 0)

theorem posns_read (k : Fin 20000) : posns (ix2 e k) = BitVec.ofNat 32 k.val := by
  pointwise [posns]

theorem perm_eq : perm x e = sortedFrom fun k k' => comparator_f32_i32_d1 (F := Ideal)
    (negScores x (ix2 e k), posns (ix2 e k)) (negScores x (ix2 e k'), posns (ix2 e k')) == 1#1 := by
  have hR : (fun k k' : Fin 20000 => decide (keyOf x e k < keyOf x e k')) = fun k k' => comparator_f32_i32_d1 (F := Ideal)
      (negScores x (ix2 e k), posns (ix2 e k)) (negScores x (ix2 e k'), posns (ix2 e k')) == 1#1 := by
    funext k k'
    rw [cmp_read, show negScores x (ix2 e k) = keyOf x e k from neg_read x e k,
      show negScores x (ix2 e k') = keyOf x e k' from neg_read x e k']
    by_cases h : keyOf x e k < keyOf x e k' <;> simp [h]
  unfold perm sortedBy
  rw [hR]

theorem order_read (p : Fin 20000) : orderOf (F := Ideal) x (ix2 e p) = BitVec.ofNat 32 (perm x e p).val := by
  rw [show orderOf (F := Ideal) x = (Host.sort2 S8x20000 1 comparator_f32_i32_d1 (negScores x) posns).2 from rfl]
  refine (sort2_read _ _ _ e p).trans ?_
  rw [← perm_eq]
  exact posns_read e _

/-- A small index is not counted from the end. -/
theorem wrap_small {q : ℕ} (hq : q < 20000) (z : BitVec 32) :
    Scalar.select (IntOp.cmpi .slt (BitVec.ofNat 32 q) 0#32) z (BitVec.ofNat 32 q) = BitVec.ofNat 32 q := by
  have hi : (BitVec.ofNat 32 q).toInt = (q : Int) := by
    rw [BitVec.toInt_eq_toNat_of_lt] <;> rw [BitVec.toNat_ofNat, Nat.mod_eq_of_lt (by omega)]
    omega
  have : BitVec.slt (BitVec.ofNat 32 q) 0#32 = false := by
    unfold BitVec.slt
    rw [hi]
    exact decide_eq_false (by simp)
  unfold IntOp.cmpi
  simp only [this]
  rfl

theorem wrapped_read (i : IVec S8x20000 32) (p : Fin 20000) {q : ℕ} (hq : q < 20000) (hv : i (ix2 e p) = BitVec.ofNat 32 q) :
    wrapped i (ix2 e p) = BitVec.ofNat 32 q := by
  pointwise [wrapped]
  rw [hv]
  exact wrap_small hq _

theorem column_read (w : IVec S8x20000 32) (p : Fin 20000) :
    (broadcastInDim S8x20000x1 ![0, 1] bcast_S8x20000_S8x20000x1_0_1 w : IVec S8x20000x1 32) (ix3 e p 0) = w (ix2 e p) := by
  pointwise

theorem rows_read (w : IVec S8x20000 32) (p q : Fin 20000) (c : Fin 4) (hw : w (ix2 e p) = BitVec.ofNat 32 q.val) :
    Host.gather gather_S8x20000x4_S8x20000x1_S8x20000x4_2_1_0_0_1_2_114 y
      (broadcastInDim S8x20000x1 ![0, 1] bcast_S8x20000_S8x20000x1_0_1 w) (ix3 e p c) = y (ix3 e q c) :=
  gather_sorted y _ e p c q.isLt ((column_read e w p).trans hw)

theorem sorted_read (p : Fin 20000) (c : Fin 4) :
    sortedBoxes (F := Ideal) x y (ix3 e p c) = y (ix3 e (perm x e p) c) :=
  rows_read y e (wrapped (orderOf (F := Ideal) x)) p (perm x e p) c
    (wrapped_read e (orderOf (F := Ideal) x) p (perm x e p).isLt (order_read x e p))

end Cert.ReferenceIdeal.Own

end
-- ==== Proof.RefFirst.lean ====
/-
The first available position of an image: the reference's arg-max over the availability bits is the least position whose bit
is set, and zero if there is none.
-/
module

public import proofs.«01_k».proof.Proof.RefGather

@[expose] public section

noncomputable section

namespace Cert.ReferenceIdeal.Own

open Idealize.ShloMosaic
open Cert.ReferenceIdeal Cert.ReferenceIdeal.Gen Cert.Nms

/-- A pair that is the least set one of a list, or the pair of zeros where none is set. -/
def LeastOf (l : List (BitVec 1 × BitVec 32)) (r : BitVec 1 × BitVec 32) : Prop :=
  (r.1 = 1#1 ∧ r ∈ l ∧ ∀ b ∈ l, b.1 = 1#1 → r.2.toInt ≤ b.2.toInt) ∨ (r = (0#1, 0#32) ∧ ∀ b ∈ l, b.1 = 0#1)

theorem bit_cases (v : BitVec 1) : v = 0#1 ∨ v = 1#1 := by
  revert v; decide

/-- One step of the arg-max. -/
theorem leastOf_step {l : List (BitVec 1 × BitVec 32)} {r b : BitVec 1 × BitVec 32} (hb : 0 ≤ b.2.toInt) (h : LeastOf l r) :
    LeastOf (l ++ [b]) (reducer_argmax_i1_i32 r b) := by
  obtain ⟨b1, b2⟩ := b
  obtain ⟨r1, r2⟩ := r
  rcases h with ⟨h1, hm, hl⟩ | ⟨h0, hl⟩
  · obtain rfl : r1 = 1#1 := h1
    rcases bit_cases b1 with rfl | rfl
    · have e : reducer_argmax_i1_i32 (1#1, r2) (0#1, b2) = (1#1, r2) := by
        simp [reducer_argmax_i1_i32, IntOp.cmpi, IntOp.ori, IntOp.andi, Scalar.select, BitVec.ult]
      rw [e]
      refine Or.inl ⟨rfl, List.mem_append_left _ hm, fun c hc hc1 => ?_⟩
      rcases List.mem_append.mp hc with hc | hc
      · exact hl c hc hc1
      · obtain rfl := List.mem_singleton.mp hc
        exact absurd (show (0#1 : BitVec 1) = 1#1 from hc1) (by decide)
    · have e : reducer_argmax_i1_i32 (1#1, r2) (1#1, b2) = (1#1, if BitVec.slt r2 b2 then r2 else b2) := by
        by_cases hs : BitVec.slt r2 b2 <;>
        simp [reducer_argmax_i1_i32, IntOp.cmpi, IntOp.ori, IntOp.andi, Scalar.select, BitVec.ult, hs]
      rw [e]
      by_cases hs : BitVec.slt r2 b2
      · rw [if_pos hs]
        have hs' : r2.toInt < b2.toInt := by simpa [BitVec.slt] using hs
        refine Or.inl ⟨rfl, List.mem_append_left _ hm, fun c hc hc1 => ?_⟩
        rcases List.mem_append.mp hc with hc | hc
        · exact hl c hc hc1
        · obtain rfl := List.mem_singleton.mp hc
          exact hs'.le
      · rw [if_neg hs]
        have hs' : b2.toInt ≤ r2.toInt := by simpa [BitVec.slt] using hs
        refine Or.inl ⟨rfl, List.mem_append_right _ (List.mem_singleton.mpr rfl), fun c hc hc1 => ?_⟩
        rcases List.mem_append.mp hc with hc | hc
        · exact hs'.trans (hl c hc hc1)
        · obtain rfl := List.mem_singleton.mp hc
          exact le_rfl
  · obtain ⟨rfl, rfl⟩ := Prod.mk.inj h0
    rcases bit_cases b1 with rfl | rfl
    · have e : reducer_argmax_i1_i32 (0#1, 0#32) (0#1, b2) = (0#1, 0#32) := by
        have hb2 : ¬ BitVec.slt 0#32 b2 → b2 = 0#32 := fun hs => by
          have : b2.toInt ≤ 0 := by simpa [BitVec.slt] using hs
          apply BitVec.eq_of_toInt_eq
          simp only [BitVec.toInt_zero]
          exact le_antisymm this hb
        by_cases hs : BitVec.slt 0#32 b2
        · simp [reducer_argmax_i1_i32, IntOp.cmpi, IntOp.ori, IntOp.andi, Scalar.select, BitVec.ult, hs]
        · obtain rfl := hb2 hs
          simp [reducer_argmax_i1_i32, IntOp.cmpi, IntOp.ori, IntOp.andi, Scalar.select, BitVec.ult]
      rw [e]
      refine Or.inr ⟨rfl, fun c hc => ?_⟩
      rcases List.mem_append.mp hc with hc | hc
      · exact hl c hc
      · obtain rfl := List.mem_singleton.mp hc
        rfl
    · have e : reducer_argmax_i1_i32 (0#1, 0#32) (1#1, b2) = (1#1, b2) := by
        simp [reducer_argmax_i1_i32, IntOp.cmpi, IntOp.ori, IntOp.andi, Scalar.select, BitVec.ult]
      rw [e]
      refine Or.inl ⟨rfl, List.mem_append_right _ (List.mem_singleton.mpr rfl), fun c hc hc1 => ?_⟩
      rcases List.mem_append.mp hc with hc | hc
      · exact absurd (hl c hc) (by rw [hc1]; decide)
      · obtain rfl := List.mem_singleton.mp hc
        exact le_rfl

/-- The arg-max's fold. -/
theorem leastOf_fold (l : List (BitVec 1 × BitVec 32)) (hl : ∀ b ∈ l, 0 ≤ b.2.toInt) :
    LeastOf l (l.foldl reducer_argmax_i1_i32 (0#1, 0#32)) := by
  induction l using List.reverseRecOn with
  | nil => exact Or.inr ⟨rfl, fun b hb => absurd hb List.not_mem_nil⟩
  | append_singleton l b ih =>
    rw [List.foldl_append]
    exact leastOf_step (hl b (List.mem_append_right _ (List.mem_singleton.mpr rfl)))
      (ih fun c hc => hl c (List.mem_append_left _ hc))

/-- Position `p₀` is the first of image `e` whose bit is set, or zero where none is. -/
def FirstSet (v : IVec S8x20000 1) (e : Fin 8) (p₀ : Fin 20000) : Prop :=
  (v (ix2 e p₀) = 1#1 ∧ ∀ p, v (ix2 e p) = 1#1 → p₀ ≤ p) ∨ (p₀ = 0 ∧ ∀ p, v (ix2 e p) = 0#1)

/-- What a place of the reduced array is folded over: its image's entries. -/
theorem mem_fiber (v : IVec S8x20000 1) (e : Fin 8) (b : BitVec 1 × BitVec 32) :
    b ∈ Host.argReduceFiber v (iotaInDim S8x20000 32 1) reducesTo_S8x20000_S8_d1 (ix1 e)
      ↔ ∃ p : Fin 20000, b = (v (ix2 e p), BitVec.ofNat 32 p.val) := by
  have hd : ∀ i : S8x20000.Idx, (reducesTo_S8x20000_S8_d1.drop i = ix1 e) ↔ i 0 = e := by
    intro i
    have h0 : (reducesTo_S8x20000_S8_d1.drop i 0).val = (i 0).val :=
      Shape.ReducesTo.drop_apply_val_of_eq _ i 0 0 (by decide)
    constructor
    · intro h
      rw [h] at h0
      exact Fin.ext h0.symm
    · intro h
      funext a
      obtain rfl : a = 0 := Subsingleton.elim _ _
      exact Fin.ext (h0.trans (congrArg Fin.val h))
  unfold Host.argReduceFiber
  rw [List.mem_map]
  constructor
  · rintro ⟨n, hn, rfl⟩
    rw [List.mem_filter] at hn
    have hi := (hd _).mp (of_decide_eq_true hn.2)
    generalize S8x20000.rowMajor.symm n = i at hi
    refine ⟨i 1, ?_⟩
    have : i = ix2 e (i 1) := by
      funext a
      match a with
      | ⟨0, _⟩ => exact hi
      | ⟨1, _⟩ => rfl
    exact Prod.ext (congrArg v this) rfl
  · rintro ⟨p, rfl⟩
    refine ⟨S8x20000.rowMajor (ix2 e p), ?_, ?_⟩
    · rw [List.mem_filter]
      refine ⟨List.mem_finRange _, decide_eq_true ?_⟩
      rw [Equiv.symm_apply_apply, hd]
      rfl
    · rw [Equiv.symm_apply_apply]
      rfl

theorem first_read (v : IVec S8x20000 1) (e : Fin 8) : ∃ p₀, FirstSet v e p₀ ∧ firstOf v (ix1 e) = BitVec.ofNat 32 p₀.val := by
  have hi : ∀ q : Fin 20000, (BitVec.ofNat 32 q.val).toInt = (q.val : Int) := fun q => by
    rw [BitVec.toInt_eq_toNat_of_lt] <;> rw [BitVec.toNat_ofNat, Nat.mod_eq_of_lt (by omega)]
    omega
  have h := leastOf_fold (Host.argReduceFiber v (iotaInDim S8x20000 32 1) reducesTo_S8x20000_S8_d1 (ix1 e))
    (fun b hb => by
      obtain ⟨p, rfl⟩ := (mem_fiber v e b).mp hb
      show 0 ≤ (BitVec.ofNat 32 p.val).toInt
      rw [hi]; exact Int.natCast_nonneg _)
  have hf : firstOf v (ix1 e) = ((Host.argReduceFiber v (iotaInDim S8x20000 32 1) reducesTo_S8x20000_S8_d1 (ix1 e)).foldl
      reducer_argmax_i1_i32 (0#1, 0#32)).2 :=
    congrArg Prod.snd (Host.reduce2_eq_foldl_fiber _ _ _ _ _ _ _ _)
  rw [hf]
  generalize (Host.argReduceFiber v (iotaInDim S8x20000 32 1) reducesTo_S8x20000_S8_d1 (ix1 e)).foldl
      reducer_argmax_i1_i32 (0#1, 0#32) = r at h
  rcases h with ⟨h1, hm, hl⟩ | ⟨rfl, hl⟩
  · obtain ⟨p, rfl⟩ := (mem_fiber v e r).mp hm
    refine ⟨p, Or.inl ⟨h1, fun q hq => ?_⟩, rfl⟩
    have := hl _ ((mem_fiber v e _).mpr ⟨q, rfl⟩) hq
    simp only [hi] at this
    exact_mod_cast this
  · exact ⟨0, Or.inr ⟨rfl, fun p => hl _ ((mem_fiber v e _).mpr ⟨p, rfl⟩)⟩, rfl⟩

end Cert.ReferenceIdeal.Own

end
-- ==== Proof.RefRead.lean ====
/-
The reference over the extended reals, read at an element: what a trip does to the suppressed positions, and the result as
the boxes chosen by the trips.
-/
module

public import proofs.«01_k».proof.Proof.RefSort
public import proofs.«01_k».proof.Proof.RefFirst

@[expose] public section

noncomputable section

namespace Cert.ReferenceIdeal.Own

open Idealize.ShloMosaic
open Cert.ReferenceIdeal Cert.ReferenceIdeal.Gen Cert.Nms

/-! ## A trip's functions -/

theorem overlap_read (bs : FVec Ideal S8x20000x4 .f32) (box : FVec Ideal S8x4 .f32) (e : Fin 8) (p : Fin 20000) :
    overlapOf (F := Ideal) bs box (ix2 e p) = iouE (fun c => box (ix2 e c)) (fun c => bs (ix3 e p c)) := by
  pointwise [overlapOf, whereOf, unionOf, interOf, zeros, zeros8, spread, bcol0, bcol1, bcol2, bcol3, col0, col1, col2, col3]
  rfl

theorem hit_read (iou : FVec Ideal S8x20000 .f32) (sup : IVec S8x20000 1) (i : IVec S8 32) (e : Fin 8) (p : Fin 20000) :
    hitOf (F := Ideal) iou sup posn i (ix2 e p)
      = IntOp.ori (IntOp.ori (sup (ix2 e p)) (BitVec.ofBool (decide (Ideal.ofBits .f32 0x3F000000#32 < iou (ix2 e p)))))
          (IntOp.cmpi .eq (BitVec.ofNat 32 p.val) (i (ix1 e))) := by
  pointwise [hitOf, posn]

theorem keep_read (t : IVec S8 1) (hit sup : IVec S8x20000 1) (e : Fin 8) (p : Fin 20000) :
    keepOf t hit sup (ix2 e p) = Scalar.select (t (ix1 e)) (hit (ix2 e p)) (sup (ix2 e p)) := by
  pointwise [keepOf]

theorem spread1_read (i : IVec S8 32) (e : Fin 8) :
    (broadcastInDim S8x1 ![0] bcast_S8_S8x1_0 i : IVec S8x1 32) (ix2 e 0) = i (ix1 e) := by
  pointwise

theorem taken_read (v : IVec S8x20000 1) (i : IVec S8 32) (e : Fin 8) (p₀ : Fin 20000) (h : i (ix1 e) = BitVec.ofNat 32 p₀.val) :
    takenOf v i (ix1 e) = v (ix2 e p₀) :=
  gather_entry v _ e p₀.isLt ((spread1_read i e).trans h)

theorem box_read (bs : FVec Ideal S8x20000x4 .f32) (i : IVec S8 32) (e : Fin 8) (p₀ : Fin 20000)
    (h : i (ix1 e) = BitVec.ofNat 32 p₀.val) (c : Fin 4) : boxAt bs i (ix2 e c) = bs (ix3 e p₀ c) :=
  gather_row bs _ e c p₀.isLt ((spread1_read i e).trans h)

theorem not_read (v : IVec S8x20000 1) (e : Fin 8) (p : Fin 20000) : noti v (ix2 e p) = ~~~(v (ix2 e p)) := rfl

theorem noti_eq_one (v : BitVec 1) : ~~~v = 1#1 ↔ v = 0#1 := by
  revert v; decide
theorem noti_eq_zero (v : BitVec 1) : ~~~v = 0#1 ↔ v = 1#1 := by
  revert v; decide

theorem or_bits (v : BitVec 1) (a b : Prop) [Decidable a] [Decidable b] :
    IntOp.ori (IntOp.ori v (BitVec.ofBool (decide a))) (BitVec.ofBool (decide b)) = 1#1 ↔ v = 1#1 ∨ a ∨ b := by
  rcases bit_cases v with h | h <;> subst h <;> by_cases ha : a <;> by_cases hb : b <;> simp [ha, hb, IntOp.ori]

/-! ## The positions chosen -/

variable (bs : FVec Ideal S8x20000x4 .f32)

/-- The position trip `k` chooses in image `e`. -/
def pickAt (k : ℕ) (e : Fin 8) : Fin 20000 := (first_read (noti (supAt bs k)) e).choose

theorem pickAt_first (k : ℕ) (e : Fin 8) : FirstSet (noti (supAt bs k)) e (pickAt bs k e) :=
  (first_read (noti (supAt bs k)) e).choose_spec.1

theorem pickAt_word (k : ℕ) (e : Fin 8) : firstOf (noti (supAt bs k)) (ix1 e) = BitVec.ofNat 32 (pickAt bs k e).val :=
  (first_read (noti (supAt bs k)) e).choose_spec.2

theorem taken_at (k : ℕ) (e : Fin 8) :
    takenOf (noti (supAt bs k)) (firstOf (noti (supAt bs k))) (ix1 e) = ~~~(supAt bs k (ix2 e (pickAt bs k e))) :=
  taken_read _ _ e _ (pickAt_word bs k e)

/-- Where the position chosen was available: suppressed after the trip are those before, those that overlap it, and
itself. -/
theorem sup_next {k : ℕ} {e : Fin 8} (h : supAt bs k (ix2 e (pickAt bs k e)) = 0#1) (p : Fin 20000) :
    supAt bs (k + 1) (ix2 e p) = 1#1
      ↔ supAt bs k (ix2 e p) = 1#1 ∨ Overlaps (fun c => bs (ix3 e (pickAt bs k e) c)) (fun c => bs (ix3 e p c)) ∨ p = pickAt bs k e := by
  have hw := pickAt_word bs k e
  have hb : ∀ c, boxAt bs (firstOf (noti (supAt bs k))) (ix2 e c) = bs (ix3 e (pickAt bs k e) c) := box_read bs _ e _ hw
  have e1 : supAt bs (k + 1) (ix2 e p) = IntOp.ori (IntOp.ori (supAt bs k (ix2 e p))
      (BitVec.ofBool (decide (Overlaps (fun c => bs (ix3 e (pickAt bs k e) c)) (fun c => bs (ix3 e p c))))))
      (BitVec.ofBool (decide (p = pickAt bs k e))) := by
    show nextSup bs posn (supAt bs k) (ix2 e p) = _
    unfold nextSup
    rw [keep_read, taken_at, h, hit_read, overlap_read, hw, cmpi_eq_ofNat (by omega) (by omega)]
    simp only [hb, ← Fin.ext_iff]
    rfl
  rw [e1]
  exact or_bits _ _ _

/-- Where none was available nothing changes. -/
theorem sup_stay {k : ℕ} {e : Fin 8} (h : supAt bs k (ix2 e (pickAt bs k e)) = 1#1) (p : Fin 20000) :
    supAt bs (k + 1) (ix2 e p) = supAt bs k (ix2 e p) := by
  show nextSup bs posn (supAt bs k) (ix2 e p) = _
  unfold nextSup
  rw [keep_read, taken_at, h]
  rfl

theorem sup_start (e : Fin 8) (p : Fin 20000) : supAt bs 0 (ix2 e p) = 0#1 := by
  show sup0 (ix2 e p) = _
  pointwise [sup0]

/-! ## The rows -/

theorem ctr_toInt {k : ℕ} (hk : k < 300) : (Scf.iv 0#32 1#32 k).toInt = (k : Int) := by
  have h : Scf.iv 0#32 1#32 k = BitVec.ofNat 32 k := by
    unfold Scf.iv
    rw [BitVec.mul_one, BitVec.zero_add]
  rw [h, BitVec.toInt_eq_toNat_of_lt] <;> rw [BitVec.toNat_ofNat, Nat.mod_eq_of_lt (by omega)]
  omega

theorem start_row {k : ℕ} (hk : k < 300) : Host.clampedStart S300x8 S1x8 rfl
    (fun a => ((![fun _ => Scf.iv 0#32 1#32 k, constantI S_ 32 0#32] : Fin 2 → IVec S_ 32) a (Shape.Idx.first h_S_)).toInt) 0 = k := by
  show (min (max (Scf.iv 0#32 1#32 k).toInt 0) ((299 : ℕ) : Int)).toNat = k
  rw [ctr_toInt hk]
  omega

theorem start_lane (k : ℕ) : Host.clampedStart S300x8 S1x8 rfl
    (fun a => ((![fun _ => Scf.iv 0#32 1#32 k, constantI S_ 32 0#32] : Fin 2 → IVec S_ 32) a (Shape.Idx.first h_S_)).toInt) 1 = 0 := by
  show (min (max (0#32).toInt 0) ((0 : ℕ) : Int)).toNat = 0
  decide

theorem row_choice {α : Type} {s r j e : ℕ} (hs : s = r) {z : ℕ} (hz : z = 0) (he : e < 8) (u : Fin 8 → α) (x : α)
    (hlt : (s ≤ j ∧ j < s + 1) ∧ z ≤ e → e - z < 8) :
    (if h : (s ≤ j ∧ j < s + 1) ∧ z ≤ e then u ⟨e - z, hlt h⟩ else x) = if j = r then u ⟨e, he⟩ else x := by
  subst hs hz
  by_cases h : j = s
  · rw [dif_pos (by omega), if_pos h]; rfl
  · rw [dif_neg (by omega), if_neg h]

theorem setRow_read {w : ℕ} (x : IVec S300x8 w) (u : IVec S8 w) {k : ℕ} (hk : k < 300) (j : Fin 300) (e : Fin 8) :
    setRow x u (fun _ => Scf.iv 0#32 1#32 k) (ix2 j e) = if j.val = k then u (ix1 e) else x (ix2 j e) := by
  pointwise [setRow]
  exact row_choice (start_row hk) (start_lane k) e.isLt (fun i => u (ix1 i)) _ _

theorem slot_read : ∀ (k : ℕ), k ≤ 300 → ∀ (j : Fin 300), j.val < k → ∀ e : Fin 8,
    slotAt bs k (ix2 j e) = BitVec.ofNat 32 (pickAt bs j.val e).val
  | 0, _, j, hj, _ => absurd hj (Nat.not_lt_zero _)
  | k + 1, hk, j, hj, e => by
    show setRow (slotAt bs k) (firstOf (noti (supAt bs k))) (fun _ => Scf.iv 0#32 1#32 k) (ix2 j e) = _
    rw [setRow_read _ _ (by omega)]
    by_cases h : j.val = k
    · rw [if_pos h, pickAt_word, h]
    · rw [if_neg h, slot_read k (by omega) j (by omega) e]

theorem flag_read : ∀ (k : ℕ), k ≤ 300 → ∀ (j : Fin 300), j.val < k → ∀ e : Fin 8,
    flagAt bs k (ix2 j e) = ~~~(supAt bs j.val (ix2 e (pickAt bs j.val e)))
  | 0, _, j, hj, _ => absurd hj (Nat.not_lt_zero _)
  | k + 1, hk, j, hj, e => by
    show setRow (flagAt bs k) (takenOf (noti (supAt bs k)) (firstOf (noti (supAt bs k)))) (fun _ => Scf.iv 0#32 1#32 k) (ix2 j e) = _
    rw [setRow_read _ _ (by omega)]
    by_cases h : j.val = k
    · rw [if_pos h, taken_at, h]
    · rw [if_neg h, flag_read k (by omega) j (by omega) e]

/-! ## The result -/

theorem slots_column (slot : IVec S300x8 32) (e : Fin 8) (j : Fin 300) {q : ℕ} (hq : q < 20000)
    (hv : slot (ix2 j e) = BitVec.ofNat 32 q) :
    (broadcastInDim S8x300x1 ![0, 1] bcast_S8x300_S8x300x1_0_1 (transpose S8x300 [1, 0]
        (select (cmpi .slt slot (broadcastInDim S300x8 ![] bcast_S_S300x8 (constantI S_ 32 0#32)))
          (addi slot (broadcastInDim S300x8 ![] bcast_S_S300x8 (constantI S_ 32 20000#32))) slot) transposes_S300x8_S8x300_1_0)
      : IVec S8x300x1 32) (ix3 e j 0) = BitVec.ofNat 32 q := by
  pointwise
  rw [hv]
  exact wrap_small hq _

theorem picked_read (slot : IVec S300x8 32) (flag : IVec S300x8 1) (e : Fin 8) (j : Fin 300) (c : Fin 4) (q : Fin 20000)
    (hv : slot (ix2 j e) = BitVec.ofNat 32 q.val) :
    picked (F := Ideal) bs slot flag (ix3 e j c)
      = Scalar.select (flag (ix2 j e)) (bs (ix3 e q c)) (Ideal.ofBits .f32 0xBF800000#32) := by
  have hg := gather_slots bs _ e j c q.isLt (slots_column slot e j q.isLt hv)
  unfold picked
  generalize Host.gather gather_S8x20000x4_S8x300x1_S8x300x4_2_1_0_0_1_2_114 bs _ = g at hg ⊢
  pointwise
  rw [hg]

theorem result_read (x : FVec Ideal S8x20000x2 .f32) (y : FVec Ideal S8x20000x4 .f32) (e : Fin 8) (j : Fin 300) (c : Fin 4) :
    resultOf (F := Ideal) x y (ix3 e j c)
      = Scalar.select (~~~(supAt (sortedBoxes x y) j.val (ix2 e (pickAt (sortedBoxes x y) j.val e))))
          (sortedBoxes x y (ix3 e (pickAt (sortedBoxes x y) j.val e) c)) (Ideal.ofBits .f32 0xBF800000#32) := by
  unfold resultOf
  rw [picked_read _ _ _ e j c _ (slot_read _ 300 le_rfl j j.isLt e), flag_read _ 300 le_rfl j j.isLt e]

end Cert.ReferenceIdeal.Own

end
-- ==== Proof.Match.lean ====
/-
The kernel's rows are the reference's over the extended reals, when every score is above minus infinity. Before trip `k` a
lane of the kernel is at minus infinity exactly when the position of its box in the reference's order is suppressed, so the
kernel's first lane of largest score and the reference's first position not suppressed hold the same box.
-/
module

public import proofs.«01_k».proof.Proof.KernelPads
public import proofs.«01_k».proof.Proof.KernelRead
public import proofs.«01_k».proof.Proof.RefRead

@[expose] public section

noncomputable section

namespace Cert.Nms

open Idealize.ShloMosaic
open Cert.KernelIdeal.Own Cert.ReferenceIdeal.Own

abbrev Scores := FVec Ideal Cert.KernelIdeal.S8x20000x2 .f32
abbrev Boxes := FVec Ideal Cert.KernelIdeal.S8x20000x4 .f32

/-- A position as a lane. -/
def lane (n : Fin 20000) : Fin 20480 := ⟨n.val, by omega⟩

theorem lane_injective {n m : Fin 20000} (h : lane n = lane m) : n = m :=
  Fin.ext (congrArg (fun i : Fin 20480 => i.val) h)

/-- The scores the kernel has left before trip `k`. -/
abbrev live (x : Scores) (y : Boxes) (k : ℕ) : Arr :=
  liveAt (F := Ideal) (scoresOf x) (y1Of y) (x1Of y) (y2Of y) (x2Of y) k

/-- The positions the reference has suppressed before trip `k`. -/
abbrev gone (x : Scores) (y : Boxes) (k : ℕ) (e : Fin 8) (p : Fin 20000) : BitVec 1 :=
  supAt (sortedBoxes (F := Ideal) x y) k (ix2 e p)

/-- The position the reference chooses in trip `k`. -/
abbrev pick (x : Scores) (y : Boxes) (k : ℕ) (e : Fin 8) : Fin 20000 := pickAt (sortedBoxes (F := Ideal) x y) k e

variable (x : Scores) (y : Boxes) (e : Fin 8)

/-- What ties the two states, the reference's order `σ` given. -/
structure Tied (σ : Fin 20000 → Fin 20000) (L : Arr) (g : Fin 20000 → BitVec 1) : Prop where
  here : ∀ p, L (ix2 e (lane (σ p))) = if g p = 1#1 then ⊥ else x (ix3 e (σ p) 1)
  pads : ∀ i : Fin 20480, 20000 ≤ i.val → L (ix2 e i) = ⊥

/-- A lane is a pad or holds a position of the order. -/
theorem lane_cases {σ : Fin 20000 → Fin 20000} (hs : Function.Surjective σ) (i : Fin 20480) :
    20000 ≤ i.val ∨ ∃ p, i = lane (σ p) := by
  by_cases h : i.val < 20000
  · obtain ⟨p, hp⟩ := hs ⟨i.val, h⟩
    exact .inr ⟨p, Fin.ext (congrArg Fin.val hp).symm⟩
  · exact .inl (by omega)

variable {x e}

/-- Where a position is left, the first one holds the largest score and the lowest lane of those that do. -/
theorem first_max {σ : Fin 20000 → Fin 20000} {L : Arr} {g : Fin 20000 → BitVec 1} (hx : ∀ n, (⊥ : EReal) < x (ix3 e n 1))
    (hs : Function.Surjective σ)
    (hb : ∀ {p q : Fin 20000}, p < q → Before (fun n => -(x (ix3 e n 1) : EReal)) (σ p) (σ q))
    (ht : Tied x e σ L g) {p₀ : Fin 20000} (h0 : g p₀ = 0#1) (hf : ∀ p, g p = 0#1 → p₀ ≤ p) : FirstMax L e (lane (σ p₀)) := by
  have v0 : L (ix2 e (lane (σ p₀))) = x (ix3 e (σ p₀) 1) := (ht.here p₀).trans (if_neg (by rw [h0]; decide))
  have key : ∀ i, L (ix2 e i) ≤ x (ix3 e (σ p₀) 1) ∧ (L (ix2 e i) = x (ix3 e (σ p₀) 1) → lane (σ p₀) ≤ i) := by
    intro i
    rcases lane_cases hs i with hi | ⟨p, rfl⟩
    · rw [ht.pads i hi]
      exact ⟨bot_le, fun h => absurd (hx (σ p₀)) (by rw [← h]; exact lt_irrefl _)⟩
    · rw [ht.here p]
      rcases bit_cases (g p) with hg | hg
      · rw [if_neg (by rw [hg]; decide)]
        rcases (hf p hg).eq_or_lt with rfl | hlt
        · exact ⟨le_rfl, fun _ => le_rfl⟩
        · rcases hb hlt with h | ⟨h, h'⟩
          · have hl := EReal.neg_lt_neg_iff.1 h
            exact ⟨hl.le, fun he => absurd he hl.ne⟩
          · exact ⟨(neg_injective h).ge, fun _ => h'.le⟩
      · rw [if_pos hg]
        exact ⟨bot_le, fun h => absurd (hx (σ p₀)) (by rw [← h]; exact lt_irrefl _)⟩
  exact ⟨fun i => (key i).1.trans v0.ge, fun i h => (key i).2 (h.trans v0)⟩

/-- Where none is left every lane is at minus infinity. -/
theorem all_gone {σ : Fin 20000 → Fin 20000} {L : Arr} {g : Fin 20000 → BitVec 1} (hs : Function.Surjective σ)
    (ht : Tied x e σ L g) (hg : ∀ p, g p = 1#1) (i : Fin 20480) : L (ix2 e i) = ⊥ := by
  rcases lane_cases hs i with hi | ⟨p, rfl⟩
  · exact ht.pads i hi
  · exact (ht.here p).trans (if_pos (hg p))

theorem none_max {L : Arr} (h : ∀ i, L (ix2 e i) = ⊥) : FirstMax L e 0 :=
  ⟨fun i => (h i).trans_le bot_le, fun i _ => Fin.zero_le i⟩

variable (x e)

/-- The lane's box. -/
abbrev box (i : Fin 20480) : Fin 4 → EReal := boxK (y1Of (F := Ideal) y) (x1Of y) (y2Of y) (x2Of y) e i

theorem box_lane (p : Fin 20000) :
    box y e (lane (perm x e p)) = fun c => sortedBoxes (F := Ideal) x y (ix3 e p c) := by
  refine (boxK_read y e (perm x e p)).trans ?_
  funext c
  exact (sorted_read x y e p c).symm

theorem perm_surjective : Function.Surjective (perm x e) := sortedBy_surjective _
theorem perm_injective : Function.Injective (perm x e) := sortedBy_injective _
theorem perm_before {p q : Fin 20000} (h : p < q) : Before (fun n => -(x (ix3 e n 1) : EReal)) (perm x e p) (perm x e q) :=
  sortedBy_before (keyOf x e) h

/-- Either the position chosen is left and the first so, or none is left. -/
theorem pick_cases (k : ℕ) :
    (gone x y k e (pick x y k e) = 0#1 ∧ ∀ p, gone x y k e p = 0#1 → pick x y k e ≤ p)
      ∨ ∀ p, gone x y k e p = 1#1 := by
  rcases pickAt_first (sortedBoxes (F := Ideal) x y) k e with ⟨h, h'⟩ | ⟨h, h'⟩
  · exact .inl ⟨(noti_eq_one _).1 h, fun p hp => h' p ((noti_eq_one _).2 hp)⟩
  · exact .inr fun p => (noti_eq_zero _).1 (h' p)

theorem left_start (p : Fin 20000) : ¬gone x y 0 e p = 1#1 := fun h =>
  absurd ((sup_start (sortedBoxes (F := Ideal) x y) e p).symm.trans h) (by decide)

theorem live_start (n : Fin 20000) : live x y 0 (ix2 e (lane n)) = x (ix3 e n 1) :=
  (live0_read e (scoresOf x) (lane n)).trans ((scores_read x e (lane n)).trans (dif_pos n.isLt))

theorem pads_start (i : Fin 20480) (hi : 20000 ≤ i.val) : live x y 0 (ix2 e i) = ⊥ :=
  (live0_read e (scoresOf x) i).trans ((scores_read x e i).trans (dif_neg (not_lt.2 hi)))

theorem tied_start : Tied x e (perm x e) (live x y 0) (gone x y 0 e) where
  here p := (live_start x y e (perm x e p)).trans (if_neg (left_start x y e p)).symm
  pads := pads_start x y e

theorem tied (hx : ∀ n, (⊥ : EReal) < x (ix3 e n 1)) : ∀ k, Tied x e (perm x e) (live x y k) (gone x y k e)
  | 0 => tied_start x y e
  | k + 1 => by
    have ht := tied hx k
    rcases pick_cases x y e k with ⟨h0, hf⟩ | hg
    · have hm := first_max hx (perm_surjective x e) (perm_before x e) ht h0 hf
      refine ⟨fun p => ?_, fun i hi => ?_⟩
      · refine (nextLive_read hm _).trans ?_
        have hn := sup_next (sortedBoxes (F := Ideal) x y) h0 p
        have hl : lane (perm x e p) = lane (perm x e (pick x y k e)) ↔ p = pick x y k e :=
          ⟨fun h => perm_injective x e (lane_injective h), fun h => congrArg (fun q => lane (perm x e q)) h⟩
        have h1 := box_lane x y e p
        have h2 := box_lane x y e (pick x y k e)
        have hL := ht.here p
        have hO : Overlaps (box y e (lane (perm x e (pick x y k e)))) (box y e (lane (perm x e p)))
            ↔ Overlaps (fun c => sortedBoxes (F := Ideal) x y (ix3 e (pick x y k e) c)) (fun c => sortedBoxes (F := Ideal) x y (ix3 e p c)) :=
          Iff.of_eq (congrArg₂ Overlaps h2 h1)
        by_cases hc : Overlaps (box y e (lane (perm x e (pick x y k e)))) (box y e (lane (perm x e p)))
            ∨ lane (perm x e p) = lane (perm x e (pick x y k e))
        · exact (if_pos hc).trans (if_pos (hn.2 (.inr (hc.imp hO.1 hl.1)))).symm
        · refine (if_neg hc).trans (hL.trans ?_)
          by_cases hs : gone x y k e p = 1#1
          · exact (if_pos hs).trans (if_pos (hn.2 (.inl hs))).symm
          · exact (if_neg hs).trans (if_neg fun h => (hn.1 h).elim hs fun h => hc (h.imp hO.2 hl.2)).symm
      · refine (nextLive_read hm _).trans ?_
        rw [ht.pads i hi, ite_self]
    · have hb := all_gone (perm_surjective x e) ht hg
      refine ⟨fun p => ?_, fun i _ => ?_⟩
      · refine (nextLive_read (none_max hb) _).trans ?_
        rw [hb, ite_self]
        exact (if_pos ((sup_stay (sortedBoxes (F := Ideal) x y) (hg _) p).trans (hg p))).symm
      · refine (nextLive_read (none_max hb) _).trans ?_
        rw [hb, ite_self]

/-- A trip's row. -/
theorem row_eq (hx : ∀ n, (⊥ : EReal) < x (ix3 e n 1)) (k : ℕ) (c : Fin 4) :
    rowOf (F := Ideal) (y1Of y) (x1Of y) (y2Of y) (x2Of y) (live x y k) (ix3 0 e c)
      = Scalar.select (~~~(gone x y k e (pick x y k e))) (sortedBoxes (F := Ideal) x y (ix3 e (pick x y k e) c))
          (Ideal.ofBits .f32 0xBF800000#32) := by
  have ht := tied x y e hx k
  rcases pick_cases x y e k with ⟨h0, hf⟩ | hg
  · have hm := first_max hx (perm_surjective x e) (perm_before x e) ht h0 hf
    refine (rowOf_read hm c).trans ?_
    have v0 := (ht.here (pick x y k e)).trans (if_neg (by rw [h0]; decide))
    rw [h0]
    exact (if_pos ((hx _).trans_eq v0.symm)).trans (congrFun (box_lane x y e (pick x y k e)) c)
  · have hb := all_gone (perm_surjective x e) ht hg
    refine (rowOf_read (none_max hb) c).trans ?_
    rw [hb, if_neg (lt_irrefl _), hg]
    rfl

/-- The two programs' results are the same. -/
theorem results_eq (hx : ∀ e n, (⊥ : EReal) < x (ix3 e n 1)) :
    transpose Cert.KernelIdeal.S8x300x4 [1, 0, 2] (kernelRows (F := Ideal) x y)
        Cert.KernelIdeal.Gen.facts.transposes_S300x8x4_S8x300x4_1_0_2
      = resultOf (F := Ideal) x y := by
  funext i
  obtain ⟨e, k, c, rfl⟩ : ∃ (e : Fin 8) (k : Fin 300) (c : Fin 4), i = ix3 e k c := ⟨i 0, i 1, i 2, by
    funext a
    match a with
    | ⟨0, _⟩ => rfl
    | ⟨1, _⟩ => rfl
    | ⟨2, _⟩ => rfl⟩
  have hin : Cert.KernelIdeal.Own.inRow (ix3 k e c) = ix3 0 e c := by
    funext a
    match a with
    | ⟨0, _⟩ => rfl
    | ⟨1, _⟩ => rfl
    | ⟨2, _⟩ => rfl
  have hk : transpose Cert.KernelIdeal.S8x300x4 [1, 0, 2] (kernelRows (F := Ideal) x y)
      Cert.KernelIdeal.Gen.facts.transposes_S300x8x4_S8x300x4_1_0_2 (ix3 e k c) = kernelRows (F := Ideal) x y (ix3 k e c) := by
    pointwise
  refine hk.trans ((congrArg (rowOf (F := Ideal) (y1Of y) (x1Of y) (y2Of y) (x2Of y) (live x y k.val)) hin).trans ?_)
  exact (row_eq x y e (hx e) k.val c).trans (result_read x y e k c).symm

end Cert.Nms

end
-- ==== Proof.ScoresAbove.lean ====
/-
The precondition read back: that the printed test is true says that every score of class 1 is above minus infinity.
-/
module

public import proofs.«01_k».proof.Pre_scores_above_minus_inf
public import proofs.«01_k».proof.Proof.Overlap
public import Idealize.ShloMosaic.Lib.ReduceAll

@[expose] public section

noncomputable section

namespace Cert.Pre_scores_above_minus_inf.Own

open Idealize.ShloMosaic
open Cert.Pre_scores_above_minus_inf Cert.Nms

/-- The test's shapes fit. -/
theorem facts : Facts where
  slices_S8x20000x2_S8x20000x1_0_0_1 := by decide
  shapeCasts_S8x20000x1_S8x20000 := by decide
  bcast_S_S8x20000 := by decide
  reducesTo_S8x20000_S_d0_1 := by decide
  h_S_ := by decide

variable [Facts]
open Facts

/-- The tests of the scores. -/
def tests (x : FVec Ideal S8x20000x2 .f32) : IVec S8x20000 1 :=
  cmpf .ogt (shapeCast S8x20000 (extractStridedSlice S8x20000x1 ![0, 0, 1] x slices_S8x20000x2_S8x20000x1_0_0_1)
      shapeCasts_S8x20000x1_S8x20000)
    (broadcastInDim S8x20000 ![] bcast_S_S8x20000 (constant S_ .f32 0xFF800000#32))

/-- One score's test. -/
theorem test_read (x : FVec Ideal S8x20000x2 .f32) (e : Fin 8) (n : Fin 20000) :
    tests x (ix2 e n) = BitVec.ofBool (decide ((⊥ : EReal) < x (ix3 e n 1))) := by
  pointwise [tests]
  rw [ofBits_neg_inf]

/-- A conjunction that is true has every member true. -/
theorem all_read (t : IVec S8x20000 1) (i : IVec S_ 1)
    (h : Host.reduce IntOp.andi t i reducesTo_S8x20000_S_d0_1 h_S_ = fun _ => 1#1) (e : Fin 8) (n : Fin 20000) :
    t (ix2 e n) = 1#1 := by
  haveI : Subsingleton S_.Idx := ⟨fun a b => funext fun i => i.elim0⟩
  have j : S_.Idx := fun a => a.elim0
  exact Host.reduce_andi_all (t := S_) t i reducesTo_S8x20000_S_d0_1 h_S_ j (congrFun h j) (ix2 e n)

/-- The printed test is the conjunction of the tests. -/
theorem fn_eq (x : FVec Ideal S8x20000x2 .f32) (y : FVec Ideal S8x20000x4 .f32) :
    fn (F := Ideal) x y = Host.reduce IntOp.andi (tests x) (constantI S_ 1 1#1) reducesTo_S8x20000_S_d0_1 h_S_ := by
  unfold fn tests
  rfl

/-- What the precondition says. -/
theorem above (x : FVec Ideal S8x20000x2 .f32) (y : FVec Ideal S8x20000x4 .f32) (h : fn (F := Ideal) x y = fun _ => 1#1)
    (e : Fin 8) (n : Fin 20000) : (⊥ : EReal) < x (ix3 e n 1) := by
  have h2 := (test_read x e n).symm.trans (all_read (tests x) (constantI S_ 1 1#1) ((fn_eq x y).symm.trans h) e n)
  by_contra hn
  rw [decide_eq_false hn] at h2
  exact absurd h2 (by decide)

end Cert.Pre_scores_above_minus_inf.Own

end
-- ==== Proof.lean ====
module

public import proofs.«01_k».proof.Defs
public import proofs.«01_k».proof.Proof.PrintedFrame
public import proofs.«01_k».proof.Proof.KernelFrame
public import proofs.«01_k».proof.Proof.RefRun
public import proofs.«01_k».proof.Proof.Match
public import proofs.«01_k».proof.Proof.ScoresAbove

@[expose] public section

noncomputable section

namespace Cert.Proof

open Idealize.ShloMosaic Idealize.SL.Sem

/-- The kernel and the reference end with the same result. -/
theorem algebraic : Cert.algebraic_KernelIdeal_ReferenceIdeal_pre_scores_above_minus_inf
    (hKernelIdeal := Cert.KernelIdeal.Gen.facts) (hReferenceIdeal := Cert.ReferenceIdeal.Gen.facts)
    (hPre_scores_above_minus_inf := Cert.Pre_scores_above_minus_inf.Own.facts) := by
  intro m g m' g' hpre hargs
  refine ⟨_, Cert.KernelIdeal.Own.value m g, ?_⟩
  refine (θ_run _ _ _).mono (fun r h c => ⟨(h c).1.trans ?_, (h c).2⟩) (Cert.ReferenceIdeal.Own.value (F := Ideal) m' g')
  haveI := Cert.Pre_scores_above_minus_inf.Own.facts
  rw [(hargs c).1, (hargs c).2]
  exact (Cert.Nms.results_eq _ _ (Cert.Pre_scores_above_minus_inf.Own.above _ _ (hpre c))).symm

theorem claim : Cert.Claim :=
  ⟨Cert.Kernel.Gen.facts, Cert.KernelIdeal.Gen.facts, Cert.ReferenceIdeal.Gen.facts, Cert.Pre_scores_above_minus_inf.Own.facts,
    fun m g _ => Cert.Kernel.Own.frame m g,
    fun m g _ => Cert.KernelIdeal.Own.frame m g,
    fun m g _ => Cert.KernelIdeal.Own.frame m g,
    fun m g _ => Cert.ReferenceIdeal.Own.frame m g,
    fun m g _ => Cert.ReferenceIdeal.Own.frame m g,
    trivial,
    algebraic⟩

end Cert.Proof

end
